-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def preserves_Kernel_KernelIdeal : Prop :=
  IdealRules.bf16_pair.Statement Cert.KernelIdeal.S32x1 Cert.KernelIdeal.S16x1
  ∧ IdealRules.bf16_pair.Statement Cert.KernelIdeal.S32x2 Cert.KernelIdeal.S16x2
  ∧ IdealRules.bf16_pair.Statement Cert.KernelIdeal.S64x1 Cert.KernelIdeal.S32x1
  ∧ IdealRules.bf16_pair.Statement Cert.KernelIdeal.S64x2 Cert.KernelIdeal.S32x2
  ∧ IdealRules.bf16_pair.Statement Cert.KernelIdeal.S64x4 Cert.KernelIdeal.S32x4
  ∧ IdealRules.bf16_pair.Statement Cert.KernelIdeal.S64x8 Cert.KernelIdeal.S32x8
  ∧ IdealRules.bf16_pair.Statement Cert.KernelIdeal.S64x16 Cert.KernelIdeal.S32x16
  ∧ IdealRules.bf16_pair.Statement Cert.KernelIdeal.S64x32 Cert.KernelIdeal.S32x32
  ∧ IdealRules.bf16_pair.Statement Cert.KernelIdeal.S32x1024 Cert.KernelIdeal.S16x1024
  ∧ IdealRules.bf16_pair.Statement Cert.KernelIdeal.S64x1024 Cert.KernelIdeal.S32x1024

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v51_0)) (v1 : (c : Dev Cert.KernelIdeal.nD) → Buf (Elt Ideal) ((c.tc : Thread Cert.KernelIdeal.nD Cert.KernelIdeal.τ).loc Cert.KernelIdeal.main_v51_1)) (v2 : (c : Dev Cert.KernelIdeal.nD) → Buf (Elt Ideal) ((c.tc : Thread Cert.KernelIdeal.nD Cert.KernelIdeal.τ).loc Cert.KernelIdeal.main_v51_2)) (v3 : (c : Dev Cert.KernelIdeal.nD) → Buf (Elt Ideal) ((c.tc : Thread Cert.KernelIdeal.nD Cert.KernelIdeal.τ).loc Cert.KernelIdeal.main_v51_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51_0) = v0 c
          ∧ r.2.mem ((c.tc : Thread Cert.KernelIdeal.nD Cert.KernelIdeal.τ).loc Cert.KernelIdeal.main_v51_1) = v1 c
          ∧ r.2.mem ((c.tc : Thread Cert.KernelIdeal.nD Cert.KernelIdeal.τ).loc Cert.KernelIdeal.main_v51_2) = v2 c
          ∧ r.2.mem ((c.tc : Thread Cert.KernelIdeal.nD Cert.KernelIdeal.τ).loc Cert.KernelIdeal.main_v51_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v305) = v0 c
          ∧ r.2.mem ((c.tc : Thread Cert.ReferenceIdeal.nD Cert.ReferenceIdeal.τ).loc Cert.ReferenceIdeal.main_v315) = v1 c
          ∧ r.2.mem ((c.tc : Thread Cert.ReferenceIdeal.nD Cert.ReferenceIdeal.τ).loc Cert.ReferenceIdeal.main_v332) = v2 c
          ∧ r.2.mem ((c.tc : Thread Cert.ReferenceIdeal.nD Cert.ReferenceIdeal.τ).loc Cert.ReferenceIdeal.main_v333) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x15x1024 : Shape := ⟨3, ![128, 15, 1024]⟩
abbrev S128 : Shape := ⟨1, ![128]⟩
abbrev S32x8 : Shape := ⟨2, ![32, 8]⟩
abbrev S64x23x3 : Shape := ⟨3, ![64, 23, 3]⟩
abbrev S64 : Shape := ⟨1, ![64]⟩
abbrev S64x64x3 : Shape := ⟨3, ![64, 64, 3]⟩
abbrev S64x23x1 : Shape := ⟨3, ![64, 23, 1]⟩
abbrev S4x64x64x3 : Shape := ⟨4, ![4, 64, 64, 3]⟩
abbrev S4x64 : Shape := ⟨2, ![4, 64]⟩
abbrev S1x64x1 : Shape := ⟨3, ![1, 64, 1]⟩
abbrev S1 : Shape := ⟨1, ![1]⟩
abbrev S1x66x1 : Shape := ⟨3, ![1, 66, 1]⟩
abbrev S_ : Shape := ⟨0, ![]⟩
abbrev S128x1 : Shape := ⟨2, ![128, 1]⟩
abbrev S128x8 : Shape := ⟨2, ![128, 8]⟩
abbrev S128x8x1024 : Shape := ⟨3, ![128, 8, 1024]⟩
abbrev S128x9x1024 : Shape := ⟨3, ![128, 9, 1024]⟩
abbrev S128x32x1024 : Shape := ⟨3, ![128, 32, 1024]⟩
abbrev S64x8x3 : Shape := ⟨3, ![64, 8, 3]⟩
abbrev S64x15x3 : Shape := ⟨3, ![64, 15, 3]⟩
abbrev S64x9x3 : Shape := ⟨3, ![64, 9, 3]⟩
abbrev S64x32x3 : Shape := ⟨3, ![64, 32, 3]⟩
abbrev S64x3x32 : Shape := ⟨3, ![64, 3, 32]⟩
abbrev S64x96 : Shape := ⟨2, ![64, 96]⟩
abbrev S64x3x64 : Shape := ⟨3, ![64, 3, 64]⟩
abbrev S64x192 : Shape := ⟨2, ![64, 192]⟩
abbrev S64x8x1 : Shape := ⟨3, ![64, 8, 1]⟩
abbrev S64x15x1 : Shape := ⟨3, ![64, 15, 1]⟩
abbrev S64x9x1 : Shape := ⟨3, ![64, 9, 1]⟩
abbrev S64x32x1 : Shape := ⟨3, ![64, 32, 1]⟩
abbrev S64x32 : Shape := ⟨2, ![64, 32]⟩
abbrev S4x64x3x64 : Shape := ⟨4, ![4, 64, 3, 64]⟩
abbrev S4x64x192 : Shape := ⟨3, ![4, 64, 192]⟩
abbrev S1x64 : Shape := ⟨2, ![1, 64]⟩
abbrev S5x64 : Shape := ⟨2, ![5, 64]⟩
abbrev S8x64 : Shape := ⟨2, ![8, 64]⟩
abbrev S64x1 : Shape := ⟨2, ![64, 1]⟩
abbrev S64x4 : Shape := ⟨2, ![64, 4]⟩
abbrev S64x11 : Shape := ⟨2, ![64, 11]⟩
abbrev S1x2x1 : Shape := ⟨3, ![1, 2, 1]⟩
abbrev S2 : Shape := ⟨1, ![2]⟩
abbrev S123 : Shape := ⟨1, ![123]⟩
abbrev S1x128 : Shape := ⟨2, ![1, 128]⟩
abbrev S128x1x1024 : Shape := ⟨3, ![128, 1, 1024]⟩
abbrev S16x32x1024 : Shape := ⟨3, ![16, 32, 1024]⟩
abbrev S16x1x1024 : Shape := ⟨3, ![16, 1, 1024]⟩
abbrev S32x1 : Shape := ⟨2, ![32, 1]⟩
abbrev S16x1 : Shape := ⟨2, ![16, 1]⟩
abbrev S32x2 : Shape := ⟨2, ![32, 2]⟩
abbrev S16x2 : Shape := ⟨2, ![16, 2]⟩
abbrev S64x2 : Shape := ⟨2, ![64, 2]⟩
abbrev S32x4 : Shape := ⟨2, ![32, 4]⟩
abbrev S64x8 : Shape := ⟨2, ![64, 8]⟩
abbrev S64x16 : Shape := ⟨2, ![64, 16]⟩
abbrev S32x16 : Shape := ⟨2, ![32, 16]⟩
abbrev S32x32 : Shape := ⟨2, ![32, 32]⟩
abbrev S1x32x1024 : Shape := ⟨3, ![1, 32, 1024]⟩
abbrev S32x1024 : Shape := ⟨2, ![32, 1024]⟩
abbrev S16x1024 : Shape := ⟨2, ![16, 1024]⟩
abbrev S16x1022 : Shape := ⟨2, ![16, 1022]⟩
abbrev S16x1023 : Shape := ⟨2, ![16, 1023]⟩
abbrev S96x1024 : Shape := ⟨2, ![96, 1024]⟩
abbrev S64x1024 : Shape := ⟨2, ![64, 1024]⟩
abbrev S32x1022 : Shape := ⟨2, ![32, 1022]⟩
abbrev S32x1023 : Shape := ⟨2, ![32, 1023]⟩
abbrev S192x1024 : Shape := ⟨2, ![192, 1024]⟩
abbrev S1x64x192 : Shape := ⟨3, ![1, 64, 192]⟩
abbrev S32x1020 : Shape := ⟨2, ![32, 1020]⟩
abbrev S32x1016 : Shape := ⟨2, ![32, 1016]⟩
abbrev S32x1008 : Shape := ⟨2, ![32, 1008]⟩
abbrev S32x992 : Shape := ⟨2, ![32, 992]⟩
abbrev S8x1024 : Shape := ⟨2, ![8, 1024]⟩
abbrev S1x1024 : Shape := ⟨2, ![1, 1024]⟩
abbrev S1x1 : Shape := ⟨2, ![1, 1]⟩
abbrev S1x1x1024 : Shape := ⟨3, ![1, 1, 1024]⟩

abbrev nBuf : Space → Nat
  | .hbm => 81
  | .vmem => 18
  | .smem => 0
  | _ => 0

abbrev bufTy : (tb : Table) → Fin (tcTables nBuf tb) → BufTy
  | .hbm, ⟨0, _⟩ => ⟨S128x15x1024, .f32⟩
  | .hbm, ⟨1, _⟩ => ⟨S128, .i32⟩
  | .hbm, ⟨2, _⟩ => ⟨S32x8, .f32⟩
  | .hbm, ⟨3, _⟩ => ⟨S64x23x3, .f32⟩
  | .hbm, ⟨4, _⟩ => ⟨S64, .f32⟩
  | .hbm, ⟨5, _⟩ => ⟨S64x64x3, .f32⟩
  | .hbm, ⟨6, _⟩ => ⟨S64, .f32⟩
  | .hbm, ⟨7, _⟩ => ⟨S64x23x1, .f32⟩
  | .hbm, ⟨8, _⟩ => ⟨S64, .f32⟩
  | .hbm, ⟨9, _⟩ => ⟨S4x64x64x3, .f32⟩
  | .hbm, ⟨10, _⟩ => ⟨S4x64, .f32⟩
  | .hbm, ⟨11, _⟩ => ⟨S4x64x64x3, .f32⟩
  | .hbm, ⟨12, _⟩ => ⟨S4x64, .f32⟩
  | .hbm, ⟨13, _⟩ => ⟨S1x64x1, .f32⟩
  | .hbm, ⟨14, _⟩ => ⟨S1, .f32⟩
  | .hbm, ⟨15, _⟩ => ⟨S1x64x1, .f32⟩
  | .hbm, ⟨16, _⟩ => ⟨S1, .f32⟩
  | .hbm, ⟨17, _⟩ => ⟨S1x66x1, .f32⟩
  | .hbm, ⟨18, _⟩ => ⟨S1, .f32⟩
  | .hbm, ⟨19, _⟩ => ⟨S_, .i32⟩
  | .hbm, ⟨20, _⟩ => ⟨S128, .i32⟩
  | .hbm, ⟨21, _⟩ => ⟨S128, .i1⟩
  | .hbm, ⟨22, _⟩ => ⟨S_, .i32⟩
  | .hbm, ⟨23, _⟩ => ⟨S128, .i32⟩
  | .hbm, ⟨24, _⟩ => ⟨S128, .i32⟩
  | .hbm, ⟨25, _⟩ => ⟨S128, .i32⟩
  | .hbm, ⟨26, _⟩ => ⟨S128x1, .i32⟩
  | .hbm, ⟨27, _⟩ => ⟨S128x8, .f32⟩
  | .hbm, ⟨28, _⟩ => ⟨S128x8x1024, .f32⟩
  | .hbm, ⟨29, _⟩ => ⟨S_, .f32⟩
  | .hbm, ⟨30, _⟩ => ⟨S128x9x1024, .f32⟩
  | .hbm, ⟨31, _⟩ => ⟨S128x32x1024, .f32⟩
  | .hbm, ⟨32, _⟩ => ⟨S128x32x1024, .bf16⟩
  | .hbm, ⟨33, _⟩ => ⟨S64x8x3, .f32⟩
  | .hbm, ⟨34, _⟩ => ⟨S64x15x3, .f32⟩
  | .hbm, ⟨35, _⟩ => ⟨S_, .f32⟩
  | .hbm, ⟨36, _⟩ => ⟨S64x9x3, .f32⟩
  | .hbm, ⟨37, _⟩ => ⟨S64x32x3, .f32⟩
  | .hbm, ⟨38, _⟩ => ⟨S64x3x32, .f32⟩
  | .hbm, ⟨39, _⟩ => ⟨S64x96, .f32⟩
  | .hbm, ⟨40, _⟩ => ⟨S64x96, .bf16⟩
  | .hbm, ⟨41, _⟩ => ⟨S64x3x64, .f32⟩
  | .hbm, ⟨42, _⟩ => ⟨S64x192, .f32⟩
  | .hbm, ⟨43, _⟩ => ⟨S64x192, .bf16⟩
  | .hbm, ⟨44, _⟩ => ⟨S64x8x1, .f32⟩
  | .hbm, ⟨45, _⟩ => ⟨S64x15x1, .f32⟩
  | .hbm, ⟨46, _⟩ => ⟨S_, .f32⟩
  | .hbm, ⟨47, _⟩ => ⟨S64x9x1, .f32⟩
  | .hbm, ⟨48, _⟩ => ⟨S64x32x1, .f32⟩
  | .hbm, ⟨49, _⟩ => ⟨S64x32, .f32⟩
  | .hbm, ⟨50, _⟩ => ⟨S64x32, .bf16⟩
  | .hbm, ⟨51, _⟩ => ⟨S4x64x3x64, .f32⟩
  | .hbm, ⟨52, _⟩ => ⟨S4x64x192, .f32⟩
  | .hbm, ⟨53, _⟩ => ⟨S4x64x192, .bf16⟩
  | .hbm, ⟨54, _⟩ => ⟨S4x64x3x64, .f32⟩
  | .hbm, ⟨55, _⟩ => ⟨S4x64x192, .f32⟩
  | .hbm, ⟨56, _⟩ => ⟨S4x64x192, .bf16⟩
  | .hbm, ⟨57, _⟩ => ⟨S1x64, .f32⟩
  | .hbm, ⟨58, _⟩ => ⟨S1x64, .f32⟩
  | .hbm, ⟨59, _⟩ => ⟨S1x64x1, .f32⟩
  | .hbm, ⟨60, _⟩ => ⟨S1x64, .f32⟩
  | .hbm, ⟨61, _⟩ => ⟨S_, .f32⟩
  | .hbm, ⟨62, _⟩ => ⟨S5x64, .f32⟩
  | .hbm, ⟨63, _⟩ => ⟨S8x64, .f32⟩
  | .hbm, ⟨64, _⟩ => ⟨S8x64, .bf16⟩
  | .hbm, ⟨65, _⟩ => ⟨S64x1, .f32⟩
  | .hbm, ⟨66, _⟩ => ⟨S64x1, .f32⟩
  | .hbm, ⟨67, _⟩ => ⟨S64x1, .f32⟩
  | .hbm, ⟨68, _⟩ => ⟨S64x4, .f32⟩
  | .hbm, ⟨69, _⟩ => ⟨S64x4, .f32⟩
  | .hbm, ⟨70, _⟩ => ⟨S64x11, .f32⟩
  | .hbm, ⟨71, _⟩ => ⟨S1x2x1, .f32⟩
  | .hbm, ⟨72, _⟩ => ⟨S2, .f32⟩
  | .hbm, ⟨73, _⟩ => ⟨S_, .f32⟩
  | .hbm, ⟨74, _⟩ => ⟨S123, .f32⟩
  | .hbm, ⟨75, _⟩ => ⟨S128, .f32⟩
  | .hbm, ⟨76, _⟩ => ⟨S1x128, .f32⟩
  | .hbm, ⟨77, _⟩ => ⟨S128x1x1024, .f32⟩
  | .hbm, ⟨78, _⟩ => ⟨S128x1x1024, .f32⟩
  | .hbm, ⟨79, _⟩ => ⟨S128x1x1024, .f32⟩
  | .hbm, ⟨80, _⟩ => ⟨S128x1x1024, .f32⟩
  | .local _ .vmem, ⟨0, _⟩ => ⟨S16x32x1024, .bf16⟩
  | .local _ .vmem, ⟨1, _⟩ => ⟨S16x32x1024, .bf16⟩
  | .local _ .vmem, ⟨2, _⟩ => ⟨S64x96, .bf16⟩
  | .local _ .vmem, ⟨3, _⟩ => ⟨S64x192, .bf16⟩
  | .local _ .vmem, ⟨4, _⟩ => ⟨S64x32, .bf16⟩
  | .local _ .vmem, ⟨5, _⟩ => ⟨S4x64x192, .bf16⟩
  | .local _ .vmem, ⟨6, _⟩ => ⟨S4x64x192, .bf16⟩
  | .local _ .vmem, ⟨7, _⟩ => ⟨S8x64, .bf16⟩
  | .local _ .vmem, ⟨8, _⟩ => ⟨S64x11, .f32⟩
  | .local _ .vmem, ⟨9, _⟩ => ⟨S1x128, .f32⟩
  | .local _ .vmem, ⟨10, _⟩ => ⟨S16x1x1024, .f32⟩
  | .local _ .vmem, ⟨11, _⟩ => ⟨S16x1x1024, .f32⟩
  | .local _ .vmem, ⟨12, _⟩ => ⟨S16x1x1024, .f32⟩
  | .local _ .vmem, ⟨13, _⟩ => ⟨S16x1x1024, .f32⟩
  | .local _ .vmem, ⟨14, _⟩ => ⟨S16x1x1024, .f32⟩
  | .local _ .vmem, ⟨15, _⟩ => ⟨S16x1x1024, .f32⟩
  | .local _ .vmem, ⟨16, _⟩ => ⟨S16x1x1024, .f32⟩
  | .local _ .vmem, ⟨17, _⟩ => ⟨S16x1x1024, .f32⟩
  | _, _ => ⟨S128x15x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_c : Ref sig .tc := ⟨.hbm, 19, rfl⟩
abbrev main_v0 : Ref sig .tc := ⟨.hbm, 20, rfl⟩
abbrev main_v1 : Ref sig .tc := ⟨.hbm, 21, rfl⟩
abbrev main_c_0 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_cst : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_cst_1 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst_2 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_3 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_4 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51_0 : Ref sig .tc := ⟨.hbm, 77, rfl⟩
abbrev main_v51_1 : Ref sig .tc := ⟨.hbm, 78, rfl⟩
abbrev main_v51_2 : Ref sig .tc := ⟨.hbm, 79, rfl⟩
abbrev main_v51_3 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17

abbrev nD : Nat := 1
abbrev τ : Topo := Topo.v7x

variable {F : FTy → Type} [BitOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x32x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x96 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x32 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x64x192 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x64x192 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x11 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S16x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S16x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S16x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S16x1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== KernelIdeal.lean ====
variable {F : FTy → Type} [FloatOps F]
-- ==== ReferenceIdeal.lean ====
abbrev S128x15x1024 : Shape := ⟨3, ![128, 15, 1024]⟩
abbrev S128 : Shape := ⟨1, ![128]⟩
abbrev S32x8 : Shape := ⟨2, ![32, 8]⟩
abbrev S64x23x3 : Shape := ⟨3, ![64, 23, 3]⟩
abbrev S64 : Shape := ⟨1, ![64]⟩
abbrev S64x64x3 : Shape := ⟨3, ![64, 64, 3]⟩
abbrev S64x23x1 : Shape := ⟨3, ![64, 23, 1]⟩
abbrev S4x64x64x3 : Shape := ⟨4, ![4, 64, 64, 3]⟩
abbrev S4x64 : Shape := ⟨2, ![4, 64]⟩
abbrev S1x64x1 : Shape := ⟨3, ![1, 64, 1]⟩
abbrev S1 : Shape := ⟨1, ![1]⟩
abbrev S1x66x1 : Shape := ⟨3, ![1, 66, 1]⟩
abbrev S_ : Shape := ⟨0, ![]⟩
abbrev S128x1 : Shape := ⟨2, ![128, 1]⟩
abbrev S128x8 : Shape := ⟨2, ![128, 8]⟩
abbrev S128x8x1 : Shape := ⟨3, ![128, 8, 1]⟩
abbrev S128x8x1024 : Shape := ⟨3, ![128, 8, 1024]⟩
abbrev S128x23x1024 : Shape := ⟨3, ![128, 23, 1024]⟩
abbrev S128x23x1026 : Shape := ⟨3, ![128, 23, 1026]⟩
abbrev S128x64x1024 : Shape := ⟨3, ![128, 64, 1024]⟩
abbrev S64x23 : Shape := ⟨2, ![64, 23]⟩
abbrev S128x1024x64 : Shape := ⟨3, ![128, 1024, 64]⟩
abbrev S128x64x1026 : Shape := ⟨3, ![128, 64, 1026]⟩
abbrev S64x64x1 : Shape := ⟨3, ![64, 64, 1]⟩
abbrev S64x64 : Shape := ⟨2, ![64, 64]⟩
abbrev S1x64x64x3 : Shape := ⟨4, ![1, 64, 64, 3]⟩
abbrev S1x64 : Shape := ⟨2, ![1, 64]⟩
abbrev S128x64x1028 : Shape := ⟨3, ![128, 64, 1028]⟩
abbrev S128x64x1032 : Shape := ⟨3, ![128, 64, 1032]⟩
abbrev S128x64x1040 : Shape := ⟨3, ![128, 64, 1040]⟩
abbrev S128x64x1056 : Shape := ⟨3, ![128, 64, 1056]⟩
abbrev S128x1x1024 : Shape := ⟨3, ![128, 1, 1024]⟩
abbrev S128x1024x1 : Shape := ⟨3, ![128, 1024, 1]⟩
abbrev S1x1x1 : Shape := ⟨3, ![1, 1, 1]⟩
abbrev S128x66x1024 : Shape := ⟨3, ![128, 66, 1024]⟩
abbrev S1x66 : Shape := ⟨2, ![1, 66]⟩

abbrev nBuf : Space → Nat
  | .hbm => 445
  | .vmem => 0
  | .smem => 0
  | _ => 0

abbrev hbmTy0_0 (i : Nat) : BufTy := match i % 128 with
  | 0 => ⟨S128x15x1024, .f32⟩
  | 1 => ⟨S128, .i32⟩
  | 2 => ⟨S32x8, .f32⟩
  | 3 => ⟨S64x23x3, .f32⟩
  | 4 => ⟨S64, .f32⟩
  | 5 => ⟨S64x64x3, .f32⟩
  | 6 => ⟨S64, .f32⟩
  | 7 => ⟨S64x23x1, .f32⟩
  | 8 => ⟨S64, .f32⟩
  | 9 => ⟨S4x64x64x3, .f32⟩
  | 10 => ⟨S4x64, .f32⟩
  | 11 => ⟨S4x64x64x3, .f32⟩
  | 12 => ⟨S4x64, .f32⟩
  | 13 => ⟨S1x64x1, .f32⟩
  | 14 => ⟨S1, .f32⟩
  | 15 => ⟨S1x64x1, .f32⟩
  | 16 => ⟨S1, .f32⟩
  | 17 => ⟨S1x66x1, .f32⟩
  | 18 => ⟨S1, .f32⟩
  | 19 => ⟨S_, .i32⟩
  | 20 => ⟨S128, .i32⟩
  | 21 => ⟨S128, .i1⟩
  | 22 => ⟨S_, .i32⟩
  | 23 => ⟨S128, .i32⟩
  | 24 => ⟨S128, .i32⟩
  | 25 => ⟨S128, .i32⟩
  | 26 => ⟨S128x1, .i32⟩
  | 27 => ⟨S128x8, .f32⟩
  | 28 => ⟨S128x8x1, .f32⟩
  | 29 => ⟨S128x8x1024, .f32⟩
  | 30 => ⟨S128x23x1024, .f32⟩
  | 31 => ⟨S_, .i32⟩
  | 32 => ⟨S_, .f32⟩
  | 33 => ⟨S128x23x1026, .f32⟩
  | 34 => ⟨S_, .f32⟩
  | 35 => ⟨S128x64x1024, .f32⟩
  | 36 => ⟨S64x23x1, .f32⟩
  | 37 => ⟨S64x23, .f32⟩
  | 38 => ⟨S128x23x1024, .f32⟩
  | 39 => ⟨S128x1024x64, .f32⟩
  | 40 => ⟨S128x64x1024, .f32⟩
  | 41 => ⟨S128x64x1024, .f32⟩
  | 42 => ⟨S64x23x1, .f32⟩
  | 43 => ⟨S64x23, .f32⟩
  | 44 => ⟨S128x23x1024, .f32⟩
  | 45 => ⟨S128x1024x64, .f32⟩
  | 46 => ⟨S128x64x1024, .f32⟩
  | 47 => ⟨S128x64x1024, .f32⟩
  | 48 => ⟨S64x23x1, .f32⟩
  | 49 => ⟨S64x23, .f32⟩
  | 50 => ⟨S128x23x1024, .f32⟩
  | 51 => ⟨S128x1024x64, .f32⟩
  | 52 => ⟨S128x64x1024, .f32⟩
  | 53 => ⟨S128x64x1024, .f32⟩
  | 54 => ⟨S1x64x1, .f32⟩
  | 55 => ⟨S128x64x1024, .f32⟩
  | 56 => ⟨S128x64x1024, .f32⟩
  | 57 => ⟨S_, .f32⟩
  | 58 => ⟨S128x64x1024, .f32⟩
  | 59 => ⟨S128x64x1024, .f32⟩
  | 60 => ⟨S_, .i32⟩
  | 61 => ⟨S_, .f32⟩
  | 62 => ⟨S128x64x1026, .f32⟩
  | 63 => ⟨S_, .f32⟩
  | 64 => ⟨S128x64x1024, .f32⟩
  | 65 => ⟨S64x64x1, .f32⟩
  | 66 => ⟨S64x64, .f32⟩
  | 67 => ⟨S128x64x1024, .f32⟩
  | 68 => ⟨S128x1024x64, .f32⟩
  | 69 => ⟨S128x64x1024, .f32⟩
  | 70 => ⟨S128x64x1024, .f32⟩
  | 71 => ⟨S64x64x1, .f32⟩
  | 72 => ⟨S64x64, .f32⟩
  | 73 => ⟨S128x64x1024, .f32⟩
  | 74 => ⟨S128x1024x64, .f32⟩
  | 75 => ⟨S128x64x1024, .f32⟩
  | 76 => ⟨S128x64x1024, .f32⟩
  | 77 => ⟨S64x64x1, .f32⟩
  | 78 => ⟨S64x64, .f32⟩
  | 79 => ⟨S128x64x1024, .f32⟩
  | 80 => ⟨S128x1024x64, .f32⟩
  | 81 => ⟨S128x64x1024, .f32⟩
  | 82 => ⟨S128x64x1024, .f32⟩
  | 83 => ⟨S1x64x1, .f32⟩
  | 84 => ⟨S128x64x1024, .f32⟩
  | 85 => ⟨S128x64x1024, .f32⟩
  | 86 => ⟨S_, .f32⟩
  | 87 => ⟨S128x64x1024, .f32⟩
  | 88 => ⟨S128x64x1024, .f32⟩
  | 89 => ⟨S_, .i32⟩
  | 90 => ⟨S_, .f32⟩
  | 91 => ⟨S128x23x1024, .f32⟩
  | 92 => ⟨S_, .f32⟩
  | 93 => ⟨S128x64x1024, .f32⟩
  | 94 => ⟨S64x23, .f32⟩
  | 95 => ⟨S128x1024x64, .f32⟩
  | 96 => ⟨S128x64x1024, .f32⟩
  | 97 => ⟨S128x64x1024, .f32⟩
  | 98 => ⟨S1x64x1, .f32⟩
  | 99 => ⟨S128x64x1024, .f32⟩
  | 100 => ⟨S128x64x1024, .f32⟩
  | 101 => ⟨S128x64x1024, .f32⟩
  | 102 => ⟨S1x64x64x3, .f32⟩
  | 103 => ⟨S64x64x3, .f32⟩
  | 104 => ⟨S1x64, .f32⟩
  | 105 => ⟨S64, .f32⟩
  | 106 => ⟨S_, .i32⟩
  | 107 => ⟨S_, .f32⟩
  | 108 => ⟨S128x64x1028, .f32⟩
  | 109 => ⟨S_, .f32⟩
  | 110 => ⟨S128x64x1024, .f32⟩
  | 111 => ⟨S64x64x1, .f32⟩
  | 112 => ⟨S64x64, .f32⟩
  | 113 => ⟨S128x64x1024, .f32⟩
  | 114 => ⟨S128x1024x64, .f32⟩
  | 115 => ⟨S128x64x1024, .f32⟩
  | 116 => ⟨S128x64x1024, .f32⟩
  | 117 => ⟨S64x64x1, .f32⟩
  | 118 => ⟨S64x64, .f32⟩
  | 119 => ⟨S128x64x1024, .f32⟩
  | 120 => ⟨S128x1024x64, .f32⟩
  | 121 => ⟨S128x64x1024, .f32⟩
  | 122 => ⟨S128x64x1024, .f32⟩
  | 123 => ⟨S64x64x1, .f32⟩
  | 124 => ⟨S64x64, .f32⟩
  | 125 => ⟨S128x64x1024, .f32⟩
  | 126 => ⟨S128x1024x64, .f32⟩
  | 127 => ⟨S128x64x1024, .f32⟩
  | _ => ⟨S128x15x1024, .f32⟩

abbrev hbmTy0_1 (i : Nat) : BufTy := match i % 128 with
  | 0 => ⟨S128x64x1024, .f32⟩
  | 1 => ⟨S1x64x1, .f32⟩
  | 2 => ⟨S128x64x1024, .f32⟩
  | 3 => ⟨S128x64x1024, .f32⟩
  | 4 => ⟨S_, .f32⟩
  | 5 => ⟨S128x64x1024, .f32⟩
  | 6 => ⟨S128x64x1024, .f32⟩
  | 7 => ⟨S1x64x64x3, .f32⟩
  | 8 => ⟨S64x64x3, .f32⟩
  | 9 => ⟨S1x64, .f32⟩
  | 10 => ⟨S64, .f32⟩
  | 11 => ⟨S_, .i32⟩
  | 12 => ⟨S_, .f32⟩
  | 13 => ⟨S128x64x1028, .f32⟩
  | 14 => ⟨S_, .f32⟩
  | 15 => ⟨S128x64x1024, .f32⟩
  | 16 => ⟨S64x64x1, .f32⟩
  | 17 => ⟨S64x64, .f32⟩
  | 18 => ⟨S128x64x1024, .f32⟩
  | 19 => ⟨S128x1024x64, .f32⟩
  | 20 => ⟨S128x64x1024, .f32⟩
  | 21 => ⟨S128x64x1024, .f32⟩
  | 22 => ⟨S64x64x1, .f32⟩
  | 23 => ⟨S64x64, .f32⟩
  | 24 => ⟨S128x64x1024, .f32⟩
  | 25 => ⟨S128x1024x64, .f32⟩
  | 26 => ⟨S128x64x1024, .f32⟩
  | 27 => ⟨S128x64x1024, .f32⟩
  | 28 => ⟨S64x64x1, .f32⟩
  | 29 => ⟨S64x64, .f32⟩
  | 30 => ⟨S128x64x1024, .f32⟩
  | 31 => ⟨S128x1024x64, .f32⟩
  | 32 => ⟨S128x64x1024, .f32⟩
  | 33 => ⟨S128x64x1024, .f32⟩
  | 34 => ⟨S1x64x1, .f32⟩
  | 35 => ⟨S128x64x1024, .f32⟩
  | 36 => ⟨S128x64x1024, .f32⟩
  | 37 => ⟨S_, .f32⟩
  | 38 => ⟨S128x64x1024, .f32⟩
  | 39 => ⟨S128x64x1024, .f32⟩
  | 40 => ⟨S128x64x1024, .f32⟩
  | 41 => ⟨S1x64x64x3, .f32⟩
  | 42 => ⟨S64x64x3, .f32⟩
  | 43 => ⟨S1x64, .f32⟩
  | 44 => ⟨S64, .f32⟩
  | 45 => ⟨S_, .i32⟩
  | 46 => ⟨S_, .f32⟩
  | 47 => ⟨S128x64x1032, .f32⟩
  | 48 => ⟨S_, .f32⟩
  | 49 => ⟨S128x64x1024, .f32⟩
  | 50 => ⟨S64x64x1, .f32⟩
  | 51 => ⟨S64x64, .f32⟩
  | 52 => ⟨S128x64x1024, .f32⟩
  | 53 => ⟨S128x1024x64, .f32⟩
  | 54 => ⟨S128x64x1024, .f32⟩
  | 55 => ⟨S128x64x1024, .f32⟩
  | 56 => ⟨S64x64x1, .f32⟩
  | 57 => ⟨S64x64, .f32⟩
  | 58 => ⟨S128x64x1024, .f32⟩
  | 59 => ⟨S128x1024x64, .f32⟩
  | 60 => ⟨S128x64x1024, .f32⟩
  | 61 => ⟨S128x64x1024, .f32⟩
  | 62 => ⟨S64x64x1, .f32⟩
  | 63 => ⟨S64x64, .f32⟩
  | 64 => ⟨S128x64x1024, .f32⟩
  | 65 => ⟨S128x1024x64, .f32⟩
  | 66 => ⟨S128x64x1024, .f32⟩
  | 67 => ⟨S128x64x1024, .f32⟩
  | 68 => ⟨S1x64x1, .f32⟩
  | 69 => ⟨S128x64x1024, .f32⟩
  | 70 => ⟨S128x64x1024, .f32⟩
  | 71 => ⟨S_, .f32⟩
  | 72 => ⟨S128x64x1024, .f32⟩
  | 73 => ⟨S128x64x1024, .f32⟩
  | 74 => ⟨S1x64x64x3, .f32⟩
  | 75 => ⟨S64x64x3, .f32⟩
  | 76 => ⟨S1x64, .f32⟩
  | 77 => ⟨S64, .f32⟩
  | 78 => ⟨S_, .i32⟩
  | 79 => ⟨S_, .f32⟩
  | 80 => ⟨S128x64x1032, .f32⟩
  | 81 => ⟨S_, .f32⟩
  | 82 => ⟨S128x64x1024, .f32⟩
  | 83 => ⟨S64x64x1, .f32⟩
  | 84 => ⟨S64x64, .f32⟩
  | 85 => ⟨S128x64x1024, .f32⟩
  | 86 => ⟨S128x1024x64, .f32⟩
  | 87 => ⟨S128x64x1024, .f32⟩
  | 88 => ⟨S128x64x1024, .f32⟩
  | 89 => ⟨S64x64x1, .f32⟩
  | 90 => ⟨S64x64, .f32⟩
  | 91 => ⟨S128x64x1024, .f32⟩
  | 92 => ⟨S128x1024x64, .f32⟩
  | 93 => ⟨S128x64x1024, .f32⟩
  | 94 => ⟨S128x64x1024, .f32⟩
  | 95 => ⟨S64x64x1, .f32⟩
  | 96 => ⟨S64x64, .f32⟩
  | 97 => ⟨S128x64x1024, .f32⟩
  | 98 => ⟨S128x1024x64, .f32⟩
  | 99 => ⟨S128x64x1024, .f32⟩
  | 100 => ⟨S128x64x1024, .f32⟩
  | 101 => ⟨S1x64x1, .f32⟩
  | 102 => ⟨S128x64x1024, .f32⟩
  | 103 => ⟨S128x64x1024, .f32⟩
  | 104 => ⟨S_, .f32⟩
  | 105 => ⟨S128x64x1024, .f32⟩
  | 106 => ⟨S128x64x1024, .f32⟩
  | 107 => ⟨S128x64x1024, .f32⟩
  | 108 => ⟨S1x64x64x3, .f32⟩
  | 109 => ⟨S64x64x3, .f32⟩
  | 110 => ⟨S1x64, .f32⟩
  | 111 => ⟨S64, .f32⟩
  | 112 => ⟨S_, .i32⟩
  | 113 => ⟨S_, .f32⟩
  | 114 => ⟨S128x64x1040, .f32⟩
  | 115 => ⟨S_, .f32⟩
  | 116 => ⟨S128x64x1024, .f32⟩
  | 117 => ⟨S64x64x1, .f32⟩
  | 118 => ⟨S64x64, .f32⟩
  | 119 => ⟨S128x64x1024, .f32⟩
  | 120 => ⟨S128x1024x64, .f32⟩
  | 121 => ⟨S128x64x1024, .f32⟩
  | 122 => ⟨S128x64x1024, .f32⟩
  | 123 => ⟨S64x64x1, .f32⟩
  | 124 => ⟨S64x64, .f32⟩
  | 125 => ⟨S128x64x1024, .f32⟩
  | 126 => ⟨S128x1024x64, .f32⟩
  | 127 => ⟨S128x64x1024, .f32⟩
  | _ => ⟨S128x15x1024, .f32⟩

abbrev hbmTy0_2 (i : Nat) : BufTy := match i % 128 with
  | 0 => ⟨S128x64x1024, .f32⟩
  | 1 => ⟨S64x64x1, .f32⟩
  | 2 => ⟨S64x64, .f32⟩
  | 3 => ⟨S128x64x1024, .f32⟩
  | 4 => ⟨S128x1024x64, .f32⟩
  | 5 => ⟨S128x64x1024, .f32⟩
  | 6 => ⟨S128x64x1024, .f32⟩
  | 7 => ⟨S1x64x1, .f32⟩
  | 8 => ⟨S128x64x1024, .f32⟩
  | 9 => ⟨S128x64x1024, .f32⟩
  | 10 => ⟨S_, .f32⟩
  | 11 => ⟨S128x64x1024, .f32⟩
  | 12 => ⟨S128x64x1024, .f32⟩
  | 13 => ⟨S1x64x64x3, .f32⟩
  | 14 => ⟨S64x64x3, .f32⟩
  | 15 => ⟨S1x64, .f32⟩
  | 16 => ⟨S64, .f32⟩
  | 17 => ⟨S_, .i32⟩
  | 18 => ⟨S_, .f32⟩
  | 19 => ⟨S128x64x1040, .f32⟩
  | 20 => ⟨S_, .f32⟩
  | 21 => ⟨S128x64x1024, .f32⟩
  | 22 => ⟨S64x64x1, .f32⟩
  | 23 => ⟨S64x64, .f32⟩
  | 24 => ⟨S128x64x1024, .f32⟩
  | 25 => ⟨S128x1024x64, .f32⟩
  | 26 => ⟨S128x64x1024, .f32⟩
  | 27 => ⟨S128x64x1024, .f32⟩
  | 28 => ⟨S64x64x1, .f32⟩
  | 29 => ⟨S64x64, .f32⟩
  | 30 => ⟨S128x64x1024, .f32⟩
  | 31 => ⟨S128x1024x64, .f32⟩
  | 32 => ⟨S128x64x1024, .f32⟩
  | 33 => ⟨S128x64x1024, .f32⟩
  | 34 => ⟨S64x64x1, .f32⟩
  | 35 => ⟨S64x64, .f32⟩
  | 36 => ⟨S128x64x1024, .f32⟩
  | 37 => ⟨S128x1024x64, .f32⟩
  | 38 => ⟨S128x64x1024, .f32⟩
  | 39 => ⟨S128x64x1024, .f32⟩
  | 40 => ⟨S1x64x1, .f32⟩
  | 41 => ⟨S128x64x1024, .f32⟩
  | 42 => ⟨S128x64x1024, .f32⟩
  | 43 => ⟨S_, .f32⟩
  | 44 => ⟨S128x64x1024, .f32⟩
  | 45 => ⟨S128x64x1024, .f32⟩
  | 46 => ⟨S128x64x1024, .f32⟩
  | 47 => ⟨S1x64x64x3, .f32⟩
  | 48 => ⟨S64x64x3, .f32⟩
  | 49 => ⟨S1x64, .f32⟩
  | 50 => ⟨S64, .f32⟩
  | 51 => ⟨S_, .i32⟩
  | 52 => ⟨S_, .f32⟩
  | 53 => ⟨S128x64x1056, .f32⟩
  | 54 => ⟨S_, .f32⟩
  | 55 => ⟨S128x64x1024, .f32⟩
  | 56 => ⟨S64x64x1, .f32⟩
  | 57 => ⟨S64x64, .f32⟩
  | 58 => ⟨S128x64x1024, .f32⟩
  | 59 => ⟨S128x1024x64, .f32⟩
  | 60 => ⟨S128x64x1024, .f32⟩
  | 61 => ⟨S128x64x1024, .f32⟩
  | 62 => ⟨S64x64x1, .f32⟩
  | 63 => ⟨S64x64, .f32⟩
  | 64 => ⟨S128x64x1024, .f32⟩
  | 65 => ⟨S128x1024x64, .f32⟩
  | 66 => ⟨S128x64x1024, .f32⟩
  | 67 => ⟨S128x64x1024, .f32⟩
  | 68 => ⟨S64x64x1, .f32⟩
  | 69 => ⟨S64x64, .f32⟩
  | 70 => ⟨S128x64x1024, .f32⟩
  | 71 => ⟨S128x1024x64, .f32⟩
  | 72 => ⟨S128x64x1024, .f32⟩
  | 73 => ⟨S128x64x1024, .f32⟩
  | 74 => ⟨S1x64x1, .f32⟩
  | 75 => ⟨S128x64x1024, .f32⟩
  | 76 => ⟨S128x64x1024, .f32⟩
  | 77 => ⟨S_, .f32⟩
  | 78 => ⟨S128x64x1024, .f32⟩
  | 79 => ⟨S128x64x1024, .f32⟩
  | 80 => ⟨S1x64x64x3, .f32⟩
  | 81 => ⟨S64x64x3, .f32⟩
  | 82 => ⟨S1x64, .f32⟩
  | 83 => ⟨S64, .f32⟩
  | 84 => ⟨S_, .i32⟩
  | 85 => ⟨S_, .f32⟩
  | 86 => ⟨S128x64x1056, .f32⟩
  | 87 => ⟨S_, .f32⟩
  | 88 => ⟨S128x64x1024, .f32⟩
  | 89 => ⟨S64x64x1, .f32⟩
  | 90 => ⟨S64x64, .f32⟩
  | 91 => ⟨S128x64x1024, .f32⟩
  | 92 => ⟨S128x1024x64, .f32⟩
  | 93 => ⟨S128x64x1024, .f32⟩
  | 94 => ⟨S128x64x1024, .f32⟩
  | 95 => ⟨S64x64x1, .f32⟩
  | 96 => ⟨S64x64, .f32⟩
  | 97 => ⟨S128x64x1024, .f32⟩
  | 98 => ⟨S128x1024x64, .f32⟩
  | 99 => ⟨S128x64x1024, .f32⟩
  | 100 => ⟨S128x64x1024, .f32⟩
  | 101 => ⟨S64x64x1, .f32⟩
  | 102 => ⟨S64x64, .f32⟩
  | 103 => ⟨S128x64x1024, .f32⟩
  | 104 => ⟨S128x1024x64, .f32⟩
  | 105 => ⟨S128x64x1024, .f32⟩
  | 106 => ⟨S128x64x1024, .f32⟩
  | 107 => ⟨S1x64x1, .f32⟩
  | 108 => ⟨S128x64x1024, .f32⟩
  | 109 => ⟨S128x64x1024, .f32⟩
  | 110 => ⟨S_, .f32⟩
  | 111 => ⟨S128x64x1024, .f32⟩
  | 112 => ⟨S128x64x1024, .f32⟩
  | 113 => ⟨S128x64x1024, .f32⟩
  | 114 => ⟨S_, .i32⟩
  | 115 => ⟨S_, .f32⟩
  | 116 => ⟨S128x64x1024, .f32⟩
  | 117 => ⟨S_, .f32⟩
  | 118 => ⟨S128x1x1024, .f32⟩
  | 119 => ⟨S1x64, .f32⟩
  | 120 => ⟨S128x1024x1, .f32⟩
  | 121 => ⟨S128x1x1024, .f32⟩
  | 122 => ⟨S128x1x1024, .f32⟩
  | 123 => ⟨S1x1x1, .f32⟩
  | 124 => ⟨S128x1x1024, .f32⟩
  | 125 => ⟨S128x1x1024, .f32⟩
  | 126 => ⟨S_, .f32⟩
  | 127 => ⟨S128x1x1024, .f32⟩
  | _ => ⟨S128x15x1024, .f32⟩

abbrev hbmTy0_3 (i : Nat) : BufTy := match i % 128 with
  | 0 => ⟨S128x1x1024, .f32⟩
  | 1 => ⟨S128x1x1024, .f32⟩
  | 2 => ⟨S128x1x1024, .f32⟩
  | 3 => ⟨S128x1x1024, .i1⟩
  | 4 => ⟨S128x1x1024, .f32⟩
  | 5 => ⟨S128x1x1024, .f32⟩
  | 6 => ⟨S128x1x1024, .f32⟩
  | 7 => ⟨S128x1x1024, .f32⟩
  | 8 => ⟨S128x1x1024, .f32⟩
  | 9 => ⟨S128x1x1024, .f32⟩
  | 10 => ⟨S128x1x1024, .f32⟩
  | 11 => ⟨S128x1x1024, .f32⟩
  | 12 => ⟨S_, .i32⟩
  | 13 => ⟨S_, .f32⟩
  | 14 => ⟨S128x64x1024, .f32⟩
  | 15 => ⟨S_, .f32⟩
  | 16 => ⟨S128x1x1024, .f32⟩
  | 17 => ⟨S1x64, .f32⟩
  | 18 => ⟨S128x1024x1, .f32⟩
  | 19 => ⟨S128x1x1024, .f32⟩
  | 20 => ⟨S128x1x1024, .f32⟩
  | 21 => ⟨S1x1x1, .f32⟩
  | 22 => ⟨S128x1x1024, .f32⟩
  | 23 => ⟨S128x1x1024, .f32⟩
  | 24 => ⟨S_, .f32⟩
  | 25 => ⟨S128x1x1024, .f32⟩
  | 26 => ⟨S128x1x1024, .f32⟩
  | 27 => ⟨S128x1x1024, .f32⟩
  | 28 => ⟨S128x1x1024, .f32⟩
  | 29 => ⟨S128x1x1024, .i1⟩
  | 30 => ⟨S128x1x1024, .f32⟩
  | 31 => ⟨S128x1x1024, .f32⟩
  | 32 => ⟨S128x1x1024, .f32⟩
  | 33 => ⟨S128x1x1024, .f32⟩
  | 34 => ⟨S128x1x1024, .f32⟩
  | 35 => ⟨S128x1x1024, .f32⟩
  | 36 => ⟨S128x1x1024, .f32⟩
  | 37 => ⟨S128x1x1024, .f32⟩
  | 38 => ⟨S128x66x1024, .f32⟩
  | 39 => ⟨S_, .i32⟩
  | 40 => ⟨S_, .f32⟩
  | 41 => ⟨S128x66x1024, .f32⟩
  | 42 => ⟨S_, .f32⟩
  | 43 => ⟨S128x1x1024, .f32⟩
  | 44 => ⟨S1x66, .f32⟩
  | 45 => ⟨S128x1024x1, .f32⟩
  | 46 => ⟨S128x1x1024, .f32⟩
  | 47 => ⟨S128x1x1024, .f32⟩
  | 48 => ⟨S1x1x1, .f32⟩
  | 49 => ⟨S128x1x1024, .f32⟩
  | 50 => ⟨S128x1x1024, .f32⟩
  | 51 => ⟨S128x1x1024, .f32⟩
  | 52 => ⟨S128x1x1024, .f32⟩
  | 53 => ⟨S_, .f32⟩
  | 54 => ⟨S128x1x1024, .f32⟩
  | 55 => ⟨S128x1x1024, .f32⟩
  | 56 => ⟨S_, .f32⟩
  | 57 => ⟨S128x1x1024, .f32⟩
  | 58 => ⟨S128x1x1024, .f32⟩
  | 59 => ⟨S128x1x1024, .f32⟩
  | 60 => ⟨S128x1x1024, .f32⟩
  | _ => ⟨S128x15x1024, .f32⟩

abbrev hbmTy (i : Nat) : BufTy := match i / 128 with
  | 0 => hbmTy0_0 i
  | 1 => hbmTy0_1 i
  | 2 => hbmTy0_2 i
  | 3 => hbmTy0_3 i
  | _ => ⟨S128x15x1024, .f32⟩

abbrev bufTy : (tb : Table) → Fin (tcTables nBuf tb) → BufTy
  | .hbm, ⟨i, _⟩ => hbmTy i
  | _, _ => ⟨S128x15x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_c : Ref sig .tc := ⟨.hbm, 19, rfl⟩
abbrev main_v0 : Ref sig .tc := ⟨.hbm, 20, rfl⟩
abbrev main_v1 : Ref sig .tc := ⟨.hbm, 21, rfl⟩
abbrev main_c_0 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_c_1 : Ref sig .tc := ⟨.hbm, 31, rfl⟩
abbrev main_call0_v0 : Ref sig .tc := ⟨.hbm, 32, rfl⟩
abbrev main_v10 : Ref sig .tc := ⟨.hbm, 33, rfl⟩
abbrev main_cst : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_call1_cst : Ref sig .tc := ⟨.hbm, 57, rfl⟩
abbrev main_call1_v0 : Ref sig .tc := ⟨.hbm, 58, rfl⟩
abbrev main_v33 : Ref sig .tc := ⟨.hbm, 59, rfl⟩
abbrev main_c_2 : Ref sig .tc := ⟨.hbm, 60, rfl⟩
abbrev main_call2_v0 : Ref sig .tc := ⟨.hbm, 61, rfl⟩
abbrev main_v34 : Ref sig .tc := ⟨.hbm, 62, rfl⟩
abbrev main_cst_3 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_call3_cst : Ref sig .tc := ⟨.hbm, 86, rfl⟩
abbrev main_call3_v0 : Ref sig .tc := ⟨.hbm, 87, rfl⟩
abbrev main_v57 : Ref sig .tc := ⟨.hbm, 88, rfl⟩
abbrev main_c_4 : Ref sig .tc := ⟨.hbm, 89, rfl⟩
abbrev main_call4_v0 : Ref sig .tc := ⟨.hbm, 90, rfl⟩
abbrev main_v58 : Ref sig .tc := ⟨.hbm, 91, rfl⟩
abbrev main_cst_5 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_c_6 : Ref sig .tc := ⟨.hbm, 106, rfl⟩
abbrev main_call5_v0 : Ref sig .tc := ⟨.hbm, 107, rfl⟩
abbrev main_v72 : Ref sig .tc := ⟨.hbm, 108, rfl⟩
abbrev main_cst_7 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_call6_cst : Ref sig .tc := ⟨.hbm, 132, rfl⟩
abbrev main_call6_v0 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_c_8 : Ref sig .tc := ⟨.hbm, 139, rfl⟩
abbrev main_call7_v0 : Ref sig .tc := ⟨.hbm, 140, rfl⟩
abbrev main_v100 : Ref sig .tc := ⟨.hbm, 141, rfl⟩
abbrev main_cst_9 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_call8_cst : Ref sig .tc := ⟨.hbm, 165, rfl⟩
abbrev main_call8_v0 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_c_10 : Ref sig .tc := ⟨.hbm, 173, rfl⟩
abbrev main_call9_v0 : Ref sig .tc := ⟨.hbm, 174, rfl⟩
abbrev main_v129 : Ref sig .tc := ⟨.hbm, 175, rfl⟩
abbrev main_cst_11 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_call10_cst : Ref sig .tc := ⟨.hbm, 199, rfl⟩
abbrev main_call10_v0 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_v156 : Ref sig .tc := ⟨.hbm, 205, rfl⟩
abbrev main_c_12 : Ref sig .tc := ⟨.hbm, 206, rfl⟩
abbrev main_call11_v0 : Ref sig .tc := ⟨.hbm, 207, rfl⟩
abbrev main_v157 : Ref sig .tc := ⟨.hbm, 208, rfl⟩
abbrev main_cst_13 : Ref sig .tc := ⟨.hbm, 209, rfl⟩
abbrev main_v158 : Ref sig .tc := ⟨.hbm, 210, rfl⟩
abbrev main_v159 : Ref sig .tc := ⟨.hbm, 211, rfl⟩
abbrev main_v160 : Ref sig .tc := ⟨.hbm, 212, rfl⟩
abbrev main_v161 : Ref sig .tc := ⟨.hbm, 213, rfl⟩
abbrev main_v162 : Ref sig .tc := ⟨.hbm, 214, rfl⟩
abbrev main_v163 : Ref sig .tc := ⟨.hbm, 215, rfl⟩
abbrev main_v164 : Ref sig .tc := ⟨.hbm, 216, rfl⟩
abbrev main_v165 : Ref sig .tc := ⟨.hbm, 217, rfl⟩
abbrev main_v166 : Ref sig .tc := ⟨.hbm, 218, rfl⟩
abbrev main_v167 : Ref sig .tc := ⟨.hbm, 219, rfl⟩
abbrev main_v168 : Ref sig .tc := ⟨.hbm, 220, rfl⟩
abbrev main_v169 : Ref sig .tc := ⟨.hbm, 221, rfl⟩
abbrev main_v170 : Ref sig .tc := ⟨.hbm, 222, rfl⟩
abbrev main_v171 : Ref sig .tc := ⟨.hbm, 223, rfl⟩
abbrev main_v172 : Ref sig .tc := ⟨.hbm, 224, rfl⟩
abbrev main_v173 : Ref sig .tc := ⟨.hbm, 225, rfl⟩
abbrev main_v174 : Ref sig .tc := ⟨.hbm, 226, rfl⟩
abbrev main_v175 : Ref sig .tc := ⟨.hbm, 227, rfl⟩
abbrev main_v176 : Ref sig .tc := ⟨.hbm, 228, rfl⟩
abbrev main_v177 : Ref sig .tc := ⟨.hbm, 229, rfl⟩
abbrev main_v178 : Ref sig .tc := ⟨.hbm, 230, rfl⟩
abbrev main_v179 : Ref sig .tc := ⟨.hbm, 231, rfl⟩
abbrev main_call12_cst : Ref sig .tc := ⟨.hbm, 232, rfl⟩
abbrev main_call12_v0 : Ref sig .tc := ⟨.hbm, 233, rfl⟩
abbrev main_v180 : Ref sig .tc := ⟨.hbm, 234, rfl⟩
abbrev main_v181 : Ref sig .tc := ⟨.hbm, 235, rfl⟩
abbrev main_v182 : Ref sig .tc := ⟨.hbm, 236, rfl⟩
abbrev main_v183 : Ref sig .tc := ⟨.hbm, 237, rfl⟩
abbrev main_v184 : Ref sig .tc := ⟨.hbm, 238, rfl⟩
abbrev main_v185 : Ref sig .tc := ⟨.hbm, 239, rfl⟩
abbrev main_c_14 : Ref sig .tc := ⟨.hbm, 240, rfl⟩
abbrev main_call13_v0 : Ref sig .tc := ⟨.hbm, 241, rfl⟩
abbrev main_v186 : Ref sig .tc := ⟨.hbm, 242, rfl⟩
abbrev main_cst_15 : Ref sig .tc := ⟨.hbm, 243, rfl⟩
abbrev main_v187 : Ref sig .tc := ⟨.hbm, 244, rfl⟩
abbrev main_v188 : Ref sig .tc := ⟨.hbm, 245, rfl⟩
abbrev main_v189 : Ref sig .tc := ⟨.hbm, 246, rfl⟩
abbrev main_v190 : Ref sig .tc := ⟨.hbm, 247, rfl⟩
abbrev main_v191 : Ref sig .tc := ⟨.hbm, 248, rfl⟩
abbrev main_v192 : Ref sig .tc := ⟨.hbm, 249, rfl⟩
abbrev main_v193 : Ref sig .tc := ⟨.hbm, 250, rfl⟩
abbrev main_v194 : Ref sig .tc := ⟨.hbm, 251, rfl⟩
abbrev main_v195 : Ref sig .tc := ⟨.hbm, 252, rfl⟩
abbrev main_v196 : Ref sig .tc := ⟨.hbm, 253, rfl⟩
abbrev main_v197 : Ref sig .tc := ⟨.hbm, 254, rfl⟩
abbrev main_v198 : Ref sig .tc := ⟨.hbm, 255, rfl⟩
abbrev main_v199 : Ref sig .tc := ⟨.hbm, 256, rfl⟩
abbrev main_v200 : Ref sig .tc := ⟨.hbm, 257, rfl⟩
abbrev main_v201 : Ref sig .tc := ⟨.hbm, 258, rfl⟩
abbrev main_v202 : Ref sig .tc := ⟨.hbm, 259, rfl⟩
abbrev main_v203 : Ref sig .tc := ⟨.hbm, 260, rfl⟩
abbrev main_v204 : Ref sig .tc := ⟨.hbm, 261, rfl⟩
abbrev main_v205 : Ref sig .tc := ⟨.hbm, 262, rfl⟩
abbrev main_v206 : Ref sig .tc := ⟨.hbm, 263, rfl⟩
abbrev main_v207 : Ref sig .tc := ⟨.hbm, 264, rfl⟩
abbrev main_v208 : Ref sig .tc := ⟨.hbm, 265, rfl⟩
abbrev main_call14_cst : Ref sig .tc := ⟨.hbm, 266, rfl⟩
abbrev main_call14_v0 : Ref sig .tc := ⟨.hbm, 267, rfl⟩
abbrev main_v209 : Ref sig .tc := ⟨.hbm, 268, rfl⟩
abbrev main_v210 : Ref sig .tc := ⟨.hbm, 269, rfl⟩
abbrev main_v211 : Ref sig .tc := ⟨.hbm, 270, rfl⟩
abbrev main_v212 : Ref sig .tc := ⟨.hbm, 271, rfl⟩
abbrev main_v213 : Ref sig .tc := ⟨.hbm, 272, rfl⟩
abbrev main_c_16 : Ref sig .tc := ⟨.hbm, 273, rfl⟩
abbrev main_call15_v0 : Ref sig .tc := ⟨.hbm, 274, rfl⟩
abbrev main_v214 : Ref sig .tc := ⟨.hbm, 275, rfl⟩
abbrev main_cst_17 : Ref sig .tc := ⟨.hbm, 276, rfl⟩
abbrev main_v215 : Ref sig .tc := ⟨.hbm, 277, rfl⟩
abbrev main_v216 : Ref sig .tc := ⟨.hbm, 278, rfl⟩
abbrev main_v217 : Ref sig .tc := ⟨.hbm, 279, rfl⟩
abbrev main_v218 : Ref sig .tc := ⟨.hbm, 280, rfl⟩
abbrev main_v219 : Ref sig .tc := ⟨.hbm, 281, rfl⟩
abbrev main_v220 : Ref sig .tc := ⟨.hbm, 282, rfl⟩
abbrev main_v221 : Ref sig .tc := ⟨.hbm, 283, rfl⟩
abbrev main_v222 : Ref sig .tc := ⟨.hbm, 284, rfl⟩
abbrev main_v223 : Ref sig .tc := ⟨.hbm, 285, rfl⟩
abbrev main_v224 : Ref sig .tc := ⟨.hbm, 286, rfl⟩
abbrev main_v225 : Ref sig .tc := ⟨.hbm, 287, rfl⟩
abbrev main_v226 : Ref sig .tc := ⟨.hbm, 288, rfl⟩
abbrev main_v227 : Ref sig .tc := ⟨.hbm, 289, rfl⟩
abbrev main_v228 : Ref sig .tc := ⟨.hbm, 290, rfl⟩
abbrev main_v229 : Ref sig .tc := ⟨.hbm, 291, rfl⟩
abbrev main_v230 : Ref sig .tc := ⟨.hbm, 292, rfl⟩
abbrev main_v231 : Ref sig .tc := ⟨.hbm, 293, rfl⟩
abbrev main_v232 : Ref sig .tc := ⟨.hbm, 294, rfl⟩
abbrev main_v233 : Ref sig .tc := ⟨.hbm, 295, rfl⟩
abbrev main_v234 : Ref sig .tc := ⟨.hbm, 296, rfl⟩
abbrev main_v235 : Ref sig .tc := ⟨.hbm, 297, rfl⟩
abbrev main_v236 : Ref sig .tc := ⟨.hbm, 298, rfl⟩
abbrev main_call16_cst : Ref sig .tc := ⟨.hbm, 299, rfl⟩
abbrev main_call16_v0 : Ref sig .tc := ⟨.hbm, 300, rfl⟩
abbrev main_v237 : Ref sig .tc := ⟨.hbm, 301, rfl⟩
abbrev main_v238 : Ref sig .tc := ⟨.hbm, 302, rfl⟩
abbrev main_v239 : Ref sig .tc := ⟨.hbm, 303, rfl⟩
abbrev main_v240 : Ref sig .tc := ⟨.hbm, 304, rfl⟩
abbrev main_v241 : Ref sig .tc := ⟨.hbm, 305, rfl⟩
abbrev main_v242 : Ref sig .tc := ⟨.hbm, 306, rfl⟩
abbrev main_c_18 : Ref sig .tc := ⟨.hbm, 307, rfl⟩
abbrev main_call17_v0 : Ref sig .tc := ⟨.hbm, 308, rfl⟩
abbrev main_v243 : Ref sig .tc := ⟨.hbm, 309, rfl⟩
abbrev main_cst_19 : Ref sig .tc := ⟨.hbm, 310, rfl⟩
abbrev main_v244 : Ref sig .tc := ⟨.hbm, 311, rfl⟩
abbrev main_v245 : Ref sig .tc := ⟨.hbm, 312, rfl⟩
abbrev main_v246 : Ref sig .tc := ⟨.hbm, 313, rfl⟩
abbrev main_v247 : Ref sig .tc := ⟨.hbm, 314, rfl⟩
abbrev main_v248 : Ref sig .tc := ⟨.hbm, 315, rfl⟩
abbrev main_v249 : Ref sig .tc := ⟨.hbm, 316, rfl⟩
abbrev main_v250 : Ref sig .tc := ⟨.hbm, 317, rfl⟩
abbrev main_v251 : Ref sig .tc := ⟨.hbm, 318, rfl⟩
abbrev main_v252 : Ref sig .tc := ⟨.hbm, 319, rfl⟩
abbrev main_v253 : Ref sig .tc := ⟨.hbm, 320, rfl⟩
abbrev main_v254 : Ref sig .tc := ⟨.hbm, 321, rfl⟩
abbrev main_v255 : Ref sig .tc := ⟨.hbm, 322, rfl⟩
abbrev main_v256 : Ref sig .tc := ⟨.hbm, 323, rfl⟩
abbrev main_v257 : Ref sig .tc := ⟨.hbm, 324, rfl⟩
abbrev main_v258 : Ref sig .tc := ⟨.hbm, 325, rfl⟩
abbrev main_v259 : Ref sig .tc := ⟨.hbm, 326, rfl⟩
abbrev main_v260 : Ref sig .tc := ⟨.hbm, 327, rfl⟩
abbrev main_v261 : Ref sig .tc := ⟨.hbm, 328, rfl⟩
abbrev main_v262 : Ref sig .tc := ⟨.hbm, 329, rfl⟩
abbrev main_v263 : Ref sig .tc := ⟨.hbm, 330, rfl⟩
abbrev main_v264 : Ref sig .tc := ⟨.hbm, 331, rfl⟩
abbrev main_v265 : Ref sig .tc := ⟨.hbm, 332, rfl⟩
abbrev main_call18_cst : Ref sig .tc := ⟨.hbm, 333, rfl⟩
abbrev main_call18_v0 : Ref sig .tc := ⟨.hbm, 334, rfl⟩
abbrev main_v266 : Ref sig .tc := ⟨.hbm, 335, rfl⟩
abbrev main_v267 : Ref sig .tc := ⟨.hbm, 336, rfl⟩
abbrev main_v268 : Ref sig .tc := ⟨.hbm, 337, rfl⟩
abbrev main_v269 : Ref sig .tc := ⟨.hbm, 338, rfl⟩
abbrev main_v270 : Ref sig .tc := ⟨.hbm, 339, rfl⟩
abbrev main_c_20 : Ref sig .tc := ⟨.hbm, 340, rfl⟩
abbrev main_call19_v0 : Ref sig .tc := ⟨.hbm, 341, rfl⟩
abbrev main_v271 : Ref sig .tc := ⟨.hbm, 342, rfl⟩
abbrev main_cst_21 : Ref sig .tc := ⟨.hbm, 343, rfl⟩
abbrev main_v272 : Ref sig .tc := ⟨.hbm, 344, rfl⟩
abbrev main_v273 : Ref sig .tc := ⟨.hbm, 345, rfl⟩
abbrev main_v274 : Ref sig .tc := ⟨.hbm, 346, rfl⟩
abbrev main_v275 : Ref sig .tc := ⟨.hbm, 347, rfl⟩
abbrev main_v276 : Ref sig .tc := ⟨.hbm, 348, rfl⟩
abbrev main_v277 : Ref sig .tc := ⟨.hbm, 349, rfl⟩
abbrev main_v278 : Ref sig .tc := ⟨.hbm, 350, rfl⟩
abbrev main_v279 : Ref sig .tc := ⟨.hbm, 351, rfl⟩
abbrev main_v280 : Ref sig .tc := ⟨.hbm, 352, rfl⟩
abbrev main_v281 : Ref sig .tc := ⟨.hbm, 353, rfl⟩
abbrev main_v282 : Ref sig .tc := ⟨.hbm, 354, rfl⟩
abbrev main_v283 : Ref sig .tc := ⟨.hbm, 355, rfl⟩
abbrev main_v284 : Ref sig .tc := ⟨.hbm, 356, rfl⟩
abbrev main_v285 : Ref sig .tc := ⟨.hbm, 357, rfl⟩
abbrev main_v286 : Ref sig .tc := ⟨.hbm, 358, rfl⟩
abbrev main_v287 : Ref sig .tc := ⟨.hbm, 359, rfl⟩
abbrev main_v288 : Ref sig .tc := ⟨.hbm, 360, rfl⟩
abbrev main_v289 : Ref sig .tc := ⟨.hbm, 361, rfl⟩
abbrev main_v290 : Ref sig .tc := ⟨.hbm, 362, rfl⟩
abbrev main_v291 : Ref sig .tc := ⟨.hbm, 363, rfl⟩
abbrev main_v292 : Ref sig .tc := ⟨.hbm, 364, rfl⟩
abbrev main_v293 : Ref sig .tc := ⟨.hbm, 365, rfl⟩
abbrev main_call20_cst : Ref sig .tc := ⟨.hbm, 366, rfl⟩
abbrev main_call20_v0 : Ref sig .tc := ⟨.hbm, 367, rfl⟩
abbrev main_v294 : Ref sig .tc := ⟨.hbm, 368, rfl⟩
abbrev main_v295 : Ref sig .tc := ⟨.hbm, 369, rfl⟩
abbrev main_c_22 : Ref sig .tc := ⟨.hbm, 370, rfl⟩
abbrev main_call21_v0 : Ref sig .tc := ⟨.hbm, 371, rfl⟩
abbrev main_v296 : Ref sig .tc := ⟨.hbm, 372, rfl⟩
abbrev main_cst_23 : Ref sig .tc := ⟨.hbm, 373, rfl⟩
abbrev main_v297 : Ref sig .tc := ⟨.hbm, 374, rfl⟩
abbrev main_v298 : Ref sig .tc := ⟨.hbm, 375, rfl⟩
abbrev main_v299 : Ref sig .tc := ⟨.hbm, 376, rfl⟩
abbrev main_v300 : Ref sig .tc := ⟨.hbm, 377, rfl⟩
abbrev main_v301 : Ref sig .tc := ⟨.hbm, 378, rfl⟩
abbrev main_v302 : Ref sig .tc := ⟨.hbm, 379, rfl⟩
abbrev main_v303 : Ref sig .tc := ⟨.hbm, 380, rfl⟩
abbrev main_v304 : Ref sig .tc := ⟨.hbm, 381, rfl⟩
abbrev main_call22_cst : Ref sig .tc := ⟨.hbm, 382, rfl⟩
abbrev main_call22_v0 : Ref sig .tc := ⟨.hbm, 383, rfl⟩
abbrev main_call22_v1 : Ref sig .tc := ⟨.hbm, 384, rfl⟩
abbrev main_call22_v2 : Ref sig .tc := ⟨.hbm, 385, rfl⟩
abbrev main_call22_v3 : Ref sig .tc := ⟨.hbm, 386, rfl⟩
abbrev main_call22_v4 : Ref sig .tc := ⟨.hbm, 387, rfl⟩
abbrev main_call22_v5 : Ref sig .tc := ⟨.hbm, 388, rfl⟩
abbrev main_call22_v6 : Ref sig .tc := ⟨.hbm, 389, rfl⟩
abbrev main_call22_v7 : Ref sig .tc := ⟨.hbm, 390, rfl⟩
abbrev main_call22_v8 : Ref sig .tc := ⟨.hbm, 391, rfl⟩
abbrev main_call22_v9 : Ref sig .tc := ⟨.hbm, 392, rfl⟩
abbrev main_call22_v10 : Ref sig .tc := ⟨.hbm, 393, rfl⟩
abbrev main_call22_v11 : Ref sig .tc := ⟨.hbm, 394, rfl⟩
abbrev main_v305 : Ref sig .tc := ⟨.hbm, 395, rfl⟩
abbrev main_c_24 : Ref sig .tc := ⟨.hbm, 396, rfl⟩
abbrev main_call23_v0 : Ref sig .tc := ⟨.hbm, 397, rfl⟩
abbrev main_v306 : Ref sig .tc := ⟨.hbm, 398, rfl⟩
abbrev main_cst_25 : Ref sig .tc := ⟨.hbm, 399, rfl⟩
abbrev main_v307 : Ref sig .tc := ⟨.hbm, 400, rfl⟩
abbrev main_v308 : Ref sig .tc := ⟨.hbm, 401, rfl⟩
abbrev main_v309 : Ref sig .tc := ⟨.hbm, 402, rfl⟩
abbrev main_v310 : Ref sig .tc := ⟨.hbm, 403, rfl⟩
abbrev main_v311 : Ref sig .tc := ⟨.hbm, 404, rfl⟩
abbrev main_v312 : Ref sig .tc := ⟨.hbm, 405, rfl⟩
abbrev main_v313 : Ref sig .tc := ⟨.hbm, 406, rfl⟩
abbrev main_v314 : Ref sig .tc := ⟨.hbm, 407, rfl⟩
abbrev main_call24_cst : Ref sig .tc := ⟨.hbm, 408, rfl⟩
abbrev main_call24_v0 : Ref sig .tc := ⟨.hbm, 409, rfl⟩
abbrev main_call24_v1 : Ref sig .tc := ⟨.hbm, 410, rfl⟩
abbrev main_call24_v2 : Ref sig .tc := ⟨.hbm, 411, rfl⟩
abbrev main_call24_v3 : Ref sig .tc := ⟨.hbm, 412, rfl⟩
abbrev main_call24_v4 : Ref sig .tc := ⟨.hbm, 413, rfl⟩
abbrev main_call24_v5 : Ref sig .tc := ⟨.hbm, 414, rfl⟩
abbrev main_call24_v6 : Ref sig .tc := ⟨.hbm, 415, rfl⟩
abbrev main_call24_v7 : Ref sig .tc := ⟨.hbm, 416, rfl⟩
abbrev main_call24_v8 : Ref sig .tc := ⟨.hbm, 417, rfl⟩
abbrev main_call24_v9 : Ref sig .tc := ⟨.hbm, 418, rfl⟩
abbrev main_call24_v10 : Ref sig .tc := ⟨.hbm, 419, rfl⟩
abbrev main_call24_v11 : Ref sig .tc := ⟨.hbm, 420, rfl⟩
abbrev main_v315 : Ref sig .tc := ⟨.hbm, 421, rfl⟩
abbrev main_v316 : Ref sig .tc := ⟨.hbm, 422, rfl⟩
abbrev main_c_26 : Ref sig .tc := ⟨.hbm, 423, rfl⟩
abbrev main_call25_v0 : Ref sig .tc := ⟨.hbm, 424, rfl⟩
abbrev main_v317 : Ref sig .tc := ⟨.hbm, 425, rfl⟩
abbrev main_cst_27 : Ref sig .tc := ⟨.hbm, 426, rfl⟩
abbrev main_v318 : Ref sig .tc := ⟨.hbm, 427, rfl⟩
abbrev main_v319 : Ref sig .tc := ⟨.hbm, 428, rfl⟩
abbrev main_v320 : Ref sig .tc := ⟨.hbm, 429, rfl⟩
abbrev main_v321 : Ref sig .tc := ⟨.hbm, 430, rfl⟩
abbrev main_v322 : Ref sig .tc := ⟨.hbm, 431, rfl⟩
abbrev main_v323 : Ref sig .tc := ⟨.hbm, 432, rfl⟩
abbrev main_v324 : Ref sig .tc := ⟨.hbm, 433, rfl⟩
abbrev main_v325 : Ref sig .tc := ⟨.hbm, 434, rfl⟩
abbrev main_v326 : Ref sig .tc := ⟨.hbm, 435, rfl⟩
abbrev main_v327 : Ref sig .tc := ⟨.hbm, 436, rfl⟩
abbrev main_cst_28 : Ref sig .tc := ⟨.hbm, 437, rfl⟩
abbrev main_v328 : Ref sig .tc := ⟨.hbm, 438, rfl⟩
abbrev main_v329 : Ref sig .tc := ⟨.hbm, 439, rfl⟩
abbrev main_cst_29 : Ref sig .tc := ⟨.hbm, 440, rfl⟩
abbrev main_v330 : Ref sig .tc := ⟨.hbm, 441, rfl⟩
abbrev main_v331 : Ref sig .tc := ⟨.hbm, 442, rfl⟩
abbrev main_v332 : Ref sig .tc := ⟨.hbm, 443, rfl⟩
abbrev main_v333 : Ref sig .tc := ⟨.hbm, 444, rfl⟩

abbrev nD : Nat := 1
abbrev τ : Topo := Topo.v7x

variable {F : FTy → Type} [FloatOps F]
-- ==== Proof.KernelOps.lean ====
module

public import proofs.«01_k».proof.Proof.Gen.KernelIdeal.Frame

@[expose] public section

/-! The kernel's body, written as a few operations on whole vectors that repeat for every batch of a block and every
    dilation: a causal shift done on the two parities of the rows, a convolution of three taps as one contraction, a
    residual block, and the contraction of the heads. -/

noncomputable section

namespace Cert.Tcn

open Idealize.ShloMosaic

variable {F : FTy → Type} [FloatOps F]

/-- A matrix shape. -/
abbrev S2 (a b : Nat) : Shape := ⟨2, ![a, b]⟩

/-- The shape facts of a shift by `s` of `C = 2 * R` rows of `1024 = s + M` entries. -/
structure ShiftFacts (C R s M : Nat) : Prop where
  bit : (S2 C 1024).Bitcasts 16 (S2 R 1024) 32
  bit0 : (S2 C s).Bitcasts 16 (S2 R s) 32
  slice : (S2 R 1024).Slices ![0, 0] (S2 R M)
  cat : Shape.Concatenates [S2 R s, S2 R M] (S2 R 1024) 1
  rows : C = 2 * R
  cols : s + M = 1024

/-- One parity of the shifted rows: `s` zeros, then the first `M` entries of the rows of that parity. -/
def shiftHalf {C R s M : Nat} (h : ShiftFacts C R s M) (p : Fin 2) (x : FVec F (S2 C 1024) .bf16) :
    FVec F (S2 R 1024) .bf16 :=
  concatenate (S2 R 1024) 1
    [⟨S2 R s, rowsOfParity p (S2 R s) (broadcast (S2 C s) (Scalar.ofBits .bf16 0x0000#16)) h.bit0⟩,
     ⟨S2 R M, extractStridedSlice (S2 R M) ![0, 0] (rowsOfParity p (S2 R 1024) x h.bit) h.slice⟩] h.cat

/-- Every row moved `s` places to the right, zeros coming in. -/
def shiftOp {C R s M : Nat} (h : ShiftFacts C R s M) (x : FVec F (S2 C 1024) .bf16) : FVec F (S2 C 1024) .bf16 :=
  interleaveRows (S2 C 1024) (shiftHalf h 0 x) (shiftHalf h 1 x) h.bit

/-- The three taps of a convolution stacked: the rows shifted by two dilations, by one, and as they are. -/
def stackOp {C R s M s' M' : Nat} (K : Nat) (h : ShiftFacts C R s M) (h' : ShiftFacts C R s' M')
    (hc : Shape.Concatenates [S2 C 1024, S2 C 1024, S2 C 1024] (S2 K 1024) 0) (x : FVec F (S2 C 1024) .bf16) :
    FVec F (S2 K 1024) .bf16 :=
  concatenate (S2 K 1024) 0 [⟨S2 C 1024, shiftOp h x⟩, ⟨S2 C 1024, shiftOp h' x⟩, ⟨S2 C 1024, x⟩] hc

/-- A column of a matrix repeated along the rows. -/
def colOp {φ : FTy} (o : Nat) (ho : (S2 64 11).Slices ![0, o] (S2 64 1)) (hb : (S2 64 1).Broadcasts (S2 64 1024))
    (v : FVec F (S2 64 11) φ) : FVec F (S2 64 1024) φ :=
  broadcastTo (S2 64 1024) (extractStridedSlice (S2 64 1) ![0, o] v ho) hb

/-- A convolution: the contraction of the stacked taps, the bias `bias` added, cut at zero. -/
def convOp {K : Nat} (w : FVec F (S2 64 K) .bf16) (taps : FVec F (S2 K 1024) .bf16)
    (bias : FVec F (S2 64 1024) .bf16) (hφ : FTy.bits .bf16 < FTy.bits .f32) : FVec F (S2 64 1024) .bf16 :=
  maximumf (addf (truncf .bf16 (matmul (DotDims.plain 64 K 1024) none w taps (constant (S2 64 1024) .f32 0x00000000#32)) hφ)
    bias) (broadcast (S2 64 1024) (Scalar.ofBits .bf16 0x0000#16))

theorem shift32_1 : ShiftFacts 32 16 1 1023 := ⟨by decide, by decide, by decide, by decide, rfl, rfl⟩
theorem shift32_2 : ShiftFacts 32 16 2 1022 := ⟨by decide, by decide, by decide, by decide, rfl, rfl⟩
theorem shift64_1 : ShiftFacts 64 32 1 1023 := ⟨by decide, by decide, by decide, by decide, rfl, rfl⟩
theorem shift64_2 : ShiftFacts 64 32 2 1022 := ⟨by decide, by decide, by decide, by decide, rfl, rfl⟩
theorem shift64_4 : ShiftFacts 64 32 4 1020 := ⟨by decide, by decide, by decide, by decide, rfl, rfl⟩
theorem shift64_8 : ShiftFacts 64 32 8 1016 := ⟨by decide, by decide, by decide, by decide, rfl, rfl⟩
theorem shift64_16 : ShiftFacts 64 32 16 1008 := ⟨by decide, by decide, by decide, by decide, rfl, rfl⟩
theorem shift64_32 : ShiftFacts 64 32 32 992 := ⟨by decide, by decide, by decide, by decide, rfl, rfl⟩
theorem cat96 : Shape.Concatenates [S2 32 1024, S2 32 1024, S2 32 1024] (S2 96 1024) 0 := by decide
theorem cat192 : Shape.Concatenates [S2 64 1024, S2 64 1024, S2 64 1024] (S2 192 1024) 0 := by decide
theorem col_broadcasts : (S2 64 1).Broadcasts (S2 64 1024) := by decide
theorem bf16_lt_f32 : FTy.bits .bf16 < FTy.bits .f32 := by decide

/-- The first residual block on one batch's 32 input rows: two convolutions of dilation one, and the contraction of
    one tap added. -/
def block0Op (w1 : FVec F (S2 64 96) .bf16) (w2 : FVec F (S2 64 192) .bf16) (wr : FVec F (S2 64 32) .bf16)
    (aux : FVec F (S2 64 11) .f32) (auxb : FVec F (S2 64 11) .bf16) (x : FVec F (S2 32 1024) .bf16) :
    FVec F (S2 64 1024) .bf16 :=
  addf (convOp w2 (stackOp 192 shift64_2 shift64_1 cat192
      (convOp w1 (stackOp 96 shift32_2 shift32_1 cat96 x) (colOp 0 (by decide) col_broadcasts auxb) bf16_lt_f32))
      (colOp 1 (by decide) col_broadcasts auxb) bf16_lt_f32)
    (truncf .bf16 (addf (matmul (DotDims.plain 64 32 1024) none wr x (constant (S2 64 1024) .f32 0x00000000#32))
      (colOp 2 (by decide) col_broadcasts aux)) bf16_lt_f32)

/-- What a later residual block adds to its input on one batch: two convolutions of one dilation. -/
def convsOp {s M s' M' : Nat} (h : ShiftFacts 64 32 s M) (h' : ShiftFacts 64 32 s' M') (o1 o2 : Nat)
    (ho1 : (S2 64 11).Slices ![0, o1] (S2 64 1)) (ho2 : (S2 64 11).Slices ![0, o2] (S2 64 1))
    (w1 w2 : FVec F (S2 64 192) .bf16) (auxb : FVec F (S2 64 11) .bf16) (x : FVec F (S2 64 1024) .bf16) :
    FVec F (S2 64 1024) .bf16 :=
  convOp w2 (stackOp 192 h h' cat192
    (convOp w1 (stackOp 192 h h' cat192 x) (colOp o1 ho1 col_broadcasts auxb) bf16_lt_f32))
    (colOp o2 ho2 col_broadcasts auxb) bf16_lt_f32

/-- The contraction of the heads. -/
def headsOp (wh : FVec F (S2 8 64) .bf16) (x : FVec F (S2 64 1024) .bf16) : FVec F (S2 8 1024) .f32 :=
  matmul (DotDims.plain 8 64 1024) none wh x (constant (S2 8 1024) .f32 0x00000000#32)

end Cert.Tcn

end

end
-- ==== Proof.KernelTables.lean ====
module

public import proofs.«01_k».proof.Proof.KernelOps

@[expose] public section

/-! The values that one grid point computes for its 16 batches, tabled by the batch: the input rows, what each residual
    block leaves, and the contraction of the heads. Each table is got from the one before by one operation of
    `KernelOps`, the same for every batch. -/

noncomputable section

namespace Cert.Tcn

open Idealize.ShloMosaic Cert.KernelIdeal Cert.KernelIdeal.Gen

variable {F : FTy → Type} [FloatOps F]

/-- The blocks that a grid point reads: the input rows, the weights, the biases and the heads' scalars. -/
structure Blocks (F : FTy → Type) where
  x : Vec F S16x32x1024 .bf16
  w0a : Vec F S64x96 .bf16
  w0b : Vec F S64x192 .bf16
  w0r : Vec F S64x32 .bf16
  wa : Vec F S4x64x192 .bf16
  wb : Vec F S4x64x192 .bf16
  wh : Vec F S8x64 .bf16
  aux : Vec F S64x11 .f32
  scal : Vec F S1x128 .f32

/-- A value of the body at the blocks. -/
def Blocks.on {α : Type} (B : Blocks F) (f : Vec F S16x32x1024 .bf16 → Vec F S64x96 .bf16 → Vec F S64x192 .bf16 →
    Vec F S64x32 .bf16 → Vec F S4x64x192 .bf16 → Vec F S4x64x192 .bf16 → Vec F S8x64 .bf16 → Vec F S64x11 .f32 →
    Vec F S1x128 .f32 → α) : α :=
  f B.x B.w0a B.w0b B.w0r B.wa B.wb B.wh B.aux B.scal

/-- The biases as the body reads them, in the wide and in the narrow format. -/
def auxW (B : Blocks F) : FVec F S64x11 .f32 := B.on k0_pay684
@[inherit_doc auxW] def auxN (B : Blocks F) : FVec F S64x11 .bf16 := B.on k0_pay702

/-- The 32 input rows of batch `b`. -/
def rows (B : Blocks F) : Fin 16 → FVec F S32x1024 .bf16 :=
    ![B.on k0_pay703, B.on k0_pay704, B.on k0_pay705, B.on k0_pay706, B.on k0_pay707, B.on k0_pay708, B.on
    k0_pay709, B.on k0_pay710, B.on k0_pay711, B.on k0_pay712, B.on k0_pay713, B.on k0_pay714, B.on k0_pay715,
    B.on k0_pay716, B.on k0_pay717, B.on k0_pay718]

/-- What the first residual block leaves for batch `b`. -/
def feat0 (B : Blocks F) : Fin 16 → FVec F S64x1024 .bf16 :=
    ![B.on k0_pay723, B.on k0_pay724, B.on k0_pay725, B.on k0_pay726, B.on k0_pay727, B.on k0_pay728, B.on
    k0_pay729, B.on k0_pay730, B.on k0_pay731, B.on k0_pay732, B.on k0_pay733, B.on k0_pay734, B.on k0_pay735,
    B.on k0_pay736, B.on k0_pay737, B.on k0_pay738]

/-- What the second residual block leaves for batch `b`. -/
def feat1 (B : Blocks F) : Fin 16 → FVec F S64x1024 .bf16 :=
    ![B.on k0_pay741, B.on k0_pay742, B.on k0_pay743, B.on k0_pay744, B.on k0_pay745, B.on k0_pay746, B.on
    k0_pay747, B.on k0_pay748, B.on k0_pay749, B.on k0_pay750, B.on k0_pay751, B.on k0_pay752, B.on k0_pay753,
    B.on k0_pay754, B.on k0_pay755, B.on k0_pay756]

/-- What the third residual block leaves for batch `b`. -/
def feat2 (B : Blocks F) : Fin 16 → FVec F S64x1024 .bf16 :=
    ![B.on (fun x0 x1 x2 x3 x4 x5 x6 x7 x8 => k0_pay317 (k0_pay741 x0 x1 x2 x3 x4 x5 x6 x7 x8) (k0_pay763 x0
    x1 x2 x3 x4 x5 x6 x7 x8)), B.on k0_pay765, B.on k0_pay766, B.on k0_pay767, B.on k0_pay768, B.on k0_pay769,
    B.on k0_pay770, B.on k0_pay771, B.on k0_pay772, B.on k0_pay773, B.on k0_pay774, B.on k0_pay775, B.on
    k0_pay776, B.on k0_pay777, B.on k0_pay778, B.on k0_pay779]

/-- What the fourth residual block leaves for batch `b`. -/
def feat3 (B : Blocks F) : Fin 16 → FVec F S64x1024 .bf16 :=
    ![B.on k0_pay781, B.on k0_pay782, B.on k0_pay783, B.on k0_pay784, B.on k0_pay785, B.on k0_pay786, B.on
    k0_pay787, B.on k0_pay788, B.on k0_pay789, B.on k0_pay790, B.on k0_pay791, B.on k0_pay792, B.on k0_pay793,
    B.on k0_pay794, B.on k0_pay795, B.on k0_pay796]

/-- The contraction of the heads for batch `b`. -/
def heads (B : Blocks F) : Fin 16 → FVec F S8x1024 .f32 :=
    ![B.on k0_pay803, B.on k0_pay804, B.on k0_pay805, B.on k0_pay806, B.on k0_pay807, B.on k0_pay808, B.on
    k0_pay809, B.on k0_pay810, B.on k0_pay811, B.on k0_pay812, B.on k0_pay813, B.on k0_pay814, B.on k0_pay815,
    B.on k0_pay816, B.on k0_pay817, B.on k0_pay818]

/-- The weights of the convolutions as the body reads them. -/
def wt0a (B : Blocks F) : FVec F S64x96 .bf16 := shapeCast S64x96 (View.ld B.w0a r0_18) (by decide)
@[inherit_doc wt0a] def wt0b (B : Blocks F) : FVec F S64x192 .bf16 := shapeCast S64x192 (View.ld B.w0b r0_19) (by decide)
@[inherit_doc wt0a] def wt0r (B : Blocks F) : FVec F S64x32 .bf16 := shapeCast S64x32 (View.ld B.w0r r0_20) (by decide)
@[inherit_doc wt0a] def wtH (B : Blocks F) : FVec F S8x64 .bf16 := shapeCast S8x64 (View.ld B.wh r0_25) (by decide)

/-- The weights of one later block out of the stack of four. -/
def wtBlk (w : Vec F S4x64x192 .bf16) : Fin 4 → FVec F S64x192 .bf16 :=
  ![shapeCast S64x192 (View.ld w r0_21) (by decide), shapeCast S64x192 (View.ld w r0_22) (by decide),
    shapeCast S64x192 (View.ld w r0_23) (by decide), shapeCast S64x192 (View.ld w r0_24) (by decide)]

/-- The first residual block. -/
theorem feat0_eq (B : Blocks F) (b : Fin 16) :
    feat0 B b = block0Op (wt0a B) (wt0b B) (wt0r B) (auxW B) (auxN B) (rows B b) := by
  fin_cases b <;> rfl

/-- The second residual block. -/
theorem feat1_eq (B : Blocks F) (b : Fin 16) :
    feat1 B b = addf (feat0 B b) (convsOp shift64_4 shift64_2 3 7 (by decide) (by decide)
      (wtBlk B.wa 0) (wtBlk B.wb 0) (auxN B) (feat0 B b)) := by
  fin_cases b <;> rfl

/-- The third residual block. -/
theorem feat2_eq (B : Blocks F) (b : Fin 16) :
    feat2 B b = addf (feat1 B b) (convsOp shift64_8 shift64_4 4 8 (by decide) (by decide)
      (wtBlk B.wa 1) (wtBlk B.wb 1) (auxN B) (feat1 B b)) := by
  fin_cases b <;> rfl

/-- The fourth residual block. -/
theorem feat3_eq (B : Blocks F) (b : Fin 16) :
    feat3 B b = addf (feat2 B b) (convsOp shift64_16 shift64_8 5 9 (by decide) (by decide)
      (wtBlk B.wa 2) (wtBlk B.wb 2) (auxN B) (feat2 B b)) := by
  fin_cases b <;> rfl

/-- The fifth residual block and the heads' contraction. -/
theorem heads_eq (B : Blocks F) (b : Fin 16) :
    heads B b = headsOp (wtH B) (addf (feat3 B b) (convsOp shift64_32 shift64_16 6 10 (by decide) (by decide)
      (wtBlk B.wa 3) (wtBlk B.wb 3) (auxN B) (feat3 B b))) := by
  fin_cases b <;> rfl

end Cert.Tcn

end

end
-- ==== Proof.KernelOut.lean ====
module

public import proofs.«01_k».proof.Proof.KernelTables
public import Idealize.ShloMosaic.Lib.Pipeline.ValueKit
public import Idealize.ShloMosaic.Lib.ValueIdx

@[expose] public section

/-! What one grid point stores: for each result 16 rows, one for each batch, every row got from that batch's
    contraction of the heads by the same operations. -/

noncomputable section

namespace Cert.Tcn

open Idealize.ShloMosaic Cert.KernelIdeal Cert.KernelIdeal.Gen

variable {F : FTy → Type} [FloatOps F]

/-- The kernel's softplus of a row. -/
def softplusOp (d : FVec F S1x1024 .f32) : FVec F S1x1024 .f32 :=
  select (cmpf .one (subf d (broadcast S1x1024 (Scalar.ofBits .f32 0x00000000#32)))
      (subf d (broadcast S1x1024 (Scalar.ofBits .f32 0x00000000#32))))
    (addf d (broadcast S1x1024 (Scalar.ofBits .f32 0x00000000#32)))
    (addf (maximumf d (broadcast S1x1024 (Scalar.ofBits .f32 0x00000000#32)))
      (log1p (exp (subf (broadcast S1x1024 (Scalar.ofBits .f32 0x00000000#32))
        (absf (subf d (broadcast S1x1024 (Scalar.ofBits .f32 0x00000000#32))))))))

/-- One of the heads' scalars repeated along a row. -/
def scalOp (o : Nat) (ho : S1x128.Slices ![0, o] S1x1) (s : FVec F S1x128 .f32) : FVec F S1x1024 .f32 :=
  broadcastTo S1x1024 (extractStridedSlice S1x1 ![0, o] s ho) (by decide)

/-- One row of the heads' contraction. -/
def rowOp (o : Nat) (ho : S8x1024.Slices ![o, 0] S1x1024) (g : FVec F S8x1024 .f32) : FVec F S1x1024 .f32 :=
  extractStridedSlice S1x1024 ![o, 0] g ho

/-- The first result's row. -/
def petOp (s : FVec F S1x128 .f32) (g : FVec F S8x1024 .f32) : FVec F S1x1024 .f32 :=
  softplusOp (addf (rowOp 0 (by decide) g) (scalOp 0 (by decide) s))

/-- The second result's row. -/
def pckOp (s : FVec F S1x128 .f32) (g : FVec F S8x1024 .f32) : FVec F S1x1024 .f32 :=
  softplusOp (addf (rowOp 1 (by decide) g) (scalOp 1 (by decide) s))

/-- The third result's row. -/
def aetOp (s : FVec F S1x128 .f32) (g : FVec F S8x1024 .f32) : FVec F S1x1024 .f32 :=
  mulf (logistic (addf (addf (addf (rowOp 2 (by decide) g) (scalOp 2 (by decide) s))
    (mulf (scalOp 3 (by decide) s) (petOp s g))) (mulf (scalOp 4 (by decide) s) (pckOp s g)))) (petOp s g)

/-- The fourth result's row. -/
def cwdOp (s : FVec F S1x128 .f32) (g : FVec F S8x1024 .f32) : FVec F S1x1024 .f32 :=
  subf (petOp s g) (aetOp s g)

/-- The heads' scalars as the body reads them. -/
def scalW (B : Blocks F) : FVec F S1x128 .f32 := B.on k0_pay685

/-- 16 rows stored one under the other, the last batch's store first. -/
def rowsStored (p : Fin 16 → FVec F S1x1024 .f32) : Vec F S16x1x1024 .f32 :=
  View.canon
    [⟨r0_41, shapeCast S1x1x1024 (p 15) (by decide)⟩,
     ⟨r0_40, shapeCast S1x1x1024 (p 14) (by decide)⟩,
     ⟨r0_39, shapeCast S1x1x1024 (p 13) (by decide)⟩,
     ⟨r0_38, shapeCast S1x1x1024 (p 12) (by decide)⟩,
     ⟨r0_37, shapeCast S1x1x1024 (p 11) (by decide)⟩,
     ⟨r0_36, shapeCast S1x1x1024 (p 10) (by decide)⟩,
     ⟨r0_35, shapeCast S1x1x1024 (p 9) (by decide)⟩,
     ⟨r0_34, shapeCast S1x1x1024 (p 8) (by decide)⟩,
     ⟨r0_33, shapeCast S1x1x1024 (p 7) (by decide)⟩,
     ⟨r0_32, shapeCast S1x1x1024 (p 6) (by decide)⟩,
     ⟨r0_31, shapeCast S1x1x1024 (p 5) (by decide)⟩,
     ⟨r0_30, shapeCast S1x1x1024 (p 4) (by decide)⟩,
     ⟨r0_29, shapeCast S1x1x1024 (p 3) (by decide)⟩,
     ⟨r0_28, shapeCast S1x1x1024 (p 2) (by decide)⟩,
     ⟨r0_27, shapeCast S1x1x1024 (p 1) (by decide)⟩,
     ⟨r0_26, shapeCast S1x1x1024 (p 0) (by decide)⟩]

/-- What a grid point stores of the first result. -/
theorem out9_eq (B : Blocks F) : B.on out0_9 = rowsStored fun b => petOp (scalW B) (heads B b) := by
  delta Blocks.on out0_9 rowsStored
  refine congrArg View.canon ?_
  iterate 16 refine congrArg₂ List.cons (congrArg (Sigma.mk _) rfl) ?_
  rfl

/-- What a grid point stores of the second result. -/
theorem out10_eq (B : Blocks F) : B.on out0_10 = rowsStored fun b => pckOp (scalW B) (heads B b) := by
  delta Blocks.on out0_10 rowsStored
  refine congrArg View.canon ?_
  iterate 16 refine congrArg₂ List.cons (congrArg (Sigma.mk _) rfl) ?_
  rfl

/-- What a grid point stores of the third result. -/
theorem out11_eq (B : Blocks F) : B.on out0_11 = rowsStored fun b => aetOp (scalW B) (heads B b) := by
  delta Blocks.on out0_11 rowsStored
  refine congrArg View.canon ?_
  iterate 16 refine congrArg₂ List.cons (congrArg (Sigma.mk _) rfl) ?_
  rfl

/-- What a grid point stores of the fourth result. -/
theorem out12_eq (B : Blocks F) : B.on out0_12 = rowsStored fun b => cwdOp (scalW B) (heads B b) := by
  delta Blocks.on out0_12 rowsStored
  refine congrArg View.canon ?_
  iterate 16 refine congrArg₂ List.cons (congrArg (Sigma.mk _) rfl) ?_
  rfl

/-- The stored rows at an index. -/
theorem rowsStored_apply (p : Fin 16 → FVec F S1x1024 .f32) (b : Fin 16) (t : Fin 1024) :
    rowsStored p (ix3 b 0 t) = p b (ix2 0 t) := by
  refine View.canon_eq_of_allAt _ _ _ (cover0_9 _ _ _ _ _ _ _ _ _ _ _ _ _ _ _ _ _) ?_
  have key : ∀ k : Nat, ∀ hk : k < 16, ∀ inb, View.TileAt (Val := Elt F) (e := .f32) (S := S16x1x1024) (ix3 b 0 t) ![k, 0, 0] S1x1x1024.size
      (shapeCast S1x1x1024 (p ⟨k, hk⟩) inb) (p b (ix2 0 t)) := by
    intro k hk inb x hx
    have e0 := hx 0
    have e2 := hx 2
    have l0 : (x 0).val = 0 := Nat.lt_one_iff.mp (x 0).isLt
    have l1 : (x 1).val = 0 := Nat.lt_one_iff.mp (x 1).isLt
    simp at e0 e2
    obtain rfl : b = ⟨k, hk⟩ := Fin.ext (by simpa [l0] using e0)
    refine shapeCast_apply _ _ _ _ ?_
    rw [Shape.rowMajor_val_two, Shape.rowMajor_val_three]
    simp [l0, l1, e2]
  iterate 16 refine View.allAt_cons_unit _ _ _ _ _ (key _ (by decide) _) ?_
  exact View.allAt_nil _ _

end Cert.Tcn

end

end
-- ==== Proof.Model.lean ====
module

public import Idealize.ShloMosaic.PureOps.Ideal.Laws

@[expose] public section

/-! The network on one batch, over the extended reals: rows of 1024 entries, one for each channel; a causal convolution
    of three taps; residual blocks of two convolutions; the four heads. Both programs are shown to compute this. -/

noncomputable section

namespace Cert.Tcn

open Idealize.ShloMosaic

/-- The channels of one batch. -/
abbrev Row (C : Nat) : Type := Fin C → Fin 1024 → EReal

/-- The rows moved `s` places to the right, zeros coming in. -/
def delay {C : Nat} (s : Nat) (x : Row C) : Row C :=
  fun c t => if s ≤ t.val then x c ⟨t.val - s, Nat.lt_of_le_of_lt (Nat.sub_le _ _) t.isLt⟩ else 0

/-- A causal convolution of three taps, `d` places apart. -/
def conv {C O : Nat} (w : Fin O → Fin C → Fin 3 → EReal) (b : Fin O → EReal) (d : Nat) (x : Row C) : Row O :=
  fun o t => ((∑ c, w o c 0 * delay (2 * d) x c t) + (∑ c, w o c 1 * delay d x c t) + ∑ c, w o c 2 * x c t) + b o

/-- The rows cut at zero. -/
def relu {C : Nat} (x : Row C) : Row C := fun c t => max (x c t) 0

/-- Two convolutions of one dilation, each cut at zero. -/
def convs {C O : Nat} (d : Nat) (w1 : Fin O → Fin C → Fin 3 → EReal) (b1 : Fin O → EReal)
    (w2 : Fin O → Fin O → Fin 3 → EReal) (b2 : Fin O → EReal) (x : Row C) : Row O :=
  relu (conv w2 b2 d (relu (conv w1 b1 d x)))

/-- A residual block that keeps the number of channels. -/
def block {C : Nat} (d : Nat) (w1 : Fin C → Fin C → Fin 3 → EReal) (b1 : Fin C → EReal)
    (w2 : Fin C → Fin C → Fin 3 → EReal) (b2 : Fin C → EReal) (x : Row C) : Row C :=
  fun c t => x c t + convs d w1 b1 w2 b2 x c t

/-- The first residual block, its input carried over by a matrix. -/
def block0 {C O : Nat} (w1 : Fin O → Fin C → Fin 3 → EReal) (b1 : Fin O → EReal)
    (w2 : Fin O → Fin O → Fin 3 → EReal) (b2 : Fin O → EReal) (wr : Fin O → Fin C → EReal) (br : Fin O → EReal)
    (x : Row C) : Row O :=
  fun o t => convs 1 w1 b1 w2 b2 x o t + ((∑ c, wr o c * x c t) + br o)

/-- The smooth positive part `max x 0 + log (1 + exp (-|x|))`. -/
def softplus (x : EReal) : EReal := max x 0 + Ideal.log1p (Ideal.exp (-(max x (-x))))

/-- A head: the contraction of the channels with one row of weights, a bias added. -/
def head {C : Nat} (w : Fin C → EReal) (b : EReal) (x : Row C) : Fin 1024 → EReal :=
  fun t => (∑ c, w c * x c t) + b

/-- The parameters of the network. -/
structure Params where
  w0a : Fin 64 → Fin 23 → Fin 3 → EReal
  b0a : Fin 64 → EReal
  w0b : Fin 64 → Fin 64 → Fin 3 → EReal
  b0b : Fin 64 → EReal
  w0r : Fin 64 → Fin 23 → EReal
  b0r : Fin 64 → EReal
  wa : Fin 4 → Fin 64 → Fin 64 → Fin 3 → EReal
  ba : Fin 4 → Fin 64 → EReal
  wb : Fin 4 → Fin 64 → Fin 64 → Fin 3 → EReal
  bb : Fin 4 → Fin 64 → EReal
  petW : Fin 64 → EReal
  petB : EReal
  pckW : Fin 64 → EReal
  pckB : EReal
  aetW : Fin 66 → EReal
  aetB : EReal

variable (P : Params)

/-- What the first residual block leaves. -/
def Params.f0 (x : Row 23) : Row 64 := block0 P.w0a P.b0a P.w0b P.b0b P.w0r P.b0r x
/-- What the later residual block `i`, of dilation `d`, makes of its input. -/
def Params.later (i : Fin 4) (d : Nat) (x : Row 64) : Row 64 := block d (P.wa i) (P.ba i) (P.wb i) (P.bb i) x
/-- What the five residual blocks leave. -/
def Params.feats (x : Row 23) : Row 64 :=
  P.later 3 16 (P.later 2 8 (P.later 1 4 (P.later 0 2 (P.f0 x))))

/-- The first result. -/
def Params.pet (x : Row 23) (t : Fin 1024) : EReal := softplus (head P.petW P.petB (P.feats x) t)
/-- The second result. -/
def Params.pck (x : Row 23) (t : Fin 1024) : EReal := softplus (head P.pckW P.pckB (P.feats x) t)
/-- The third result. -/
def Params.aet (x : Row 23) (t : Fin 1024) : EReal :=
  Ideal.logistic (head (fun c => P.aetW (Fin.castAdd 2 c)) P.aetB (P.feats x) t + P.aetW 64 * P.pet x t
    + P.aetW 65 * P.pck x t) * P.pet x t
/-- The fourth result. -/
def Params.cwd (x : Row 23) (t : Fin 1024) : EReal := P.pet x t - P.aet x t

end Cert.Tcn

end

end
-- ==== Proof.KernelStages.lean ====
module

public import proofs.«01_k».proof.Proof.KernelOps
public import proofs.«01_k».proof.Proof.Model
public import Idealize.ShloMosaic.Lib.Pipeline.Value
public import Idealize.ShloMosaic.Lib.MatmulPlain
public import Idealize.ShloMosaic.Lib.Pointwise

@[expose] public section

/-! The kernel's operations of `KernelOps` over the extended reals, entry by entry: the shift is `delay`, a convolution
    is `conv` cut at zero, a residual block is `block`. -/

noncomputable section

namespace Cert.Tcn

open Idealize.ShloMosaic

/-- A matrix of 1024 columns as rows. -/
def toRow {C : Nat} {φ : FTy} (x : FVec Ideal (S2 C 1024) φ) : Row C := fun c t => x (ix2 c t)

/-- The zero word at the narrow format is zero. -/
theorem zero_bf16 : (Scalar.ofBits .bf16 0x0000#16 : Ideal .bf16) = (0 : EReal) := by
  simp [Scalar.ofBits, Ideal.ofBits, Ideal.ieee]

/-- The zero word at the wide format is zero. -/
theorem zero_f32 : (Scalar.ofBits .f32 0x00000000#32 : Ideal .f32) = (0 : EReal) := Ideal.ofBits_zero_f32

/-- Two blocks of columns side by side, at a column of the left one. -/
theorem cols_left {α : Type} {R n m N : Nat} (x : (S2 R n).Idx → α) (y : (S2 R m).Idx → α)
    (hc : Shape.Concatenates [S2 R n, S2 R m] (S2 R N) 1) (r : Fin R) (t : Fin N) (q : Fin n) (hq : q.val = t.val) :
    concatenate (S2 R N) 1 [⟨S2 R n, x⟩, ⟨S2 R m, y⟩] hc (ix2 r t) = x (ix2 r q) :=
  concatenate_pair_apply_left (t := S2 R N) (s₁ := S2 R n) (s₂ := S2 R m) 1 x y hc (ix2 r t) rfl (ix2 r q)
    fun b => by fin_cases b <;> first | rfl | exact hq

/-- Two blocks of columns side by side, at a column of the right one. -/
theorem cols_right {α : Type} {R n m N : Nat} (x : (S2 R n).Idx → α) (y : (S2 R m).Idx → α)
    (hc : Shape.Concatenates [S2 R n, S2 R m] (S2 R N) 1) (r : Fin R) (t : Fin N) (q : Fin m) (hq : q.val + n = t.val) :
    concatenate (S2 R N) 1 [⟨S2 R n, x⟩, ⟨S2 R m, y⟩] hc (ix2 r t) = y (ix2 r q) :=
  concatenate_pair_apply_right (t := S2 R N) (s₁ := S2 R n) (s₂ := S2 R m) 1 x y hc (ix2 r t) rfl rfl (ix2 r q)
    (fun b hb => by
      fin_cases b
      · rfl
      · exact absurd rfl hb) hq

/-- Three blocks of rows one under the other, at a row of block `k`. -/
theorem rows_three {α : Type} {C K N : Nat} (x : Fin 3 → (S2 C N).Idx → α)
    (hc : Shape.Concatenates [S2 C N, S2 C N, S2 C N] (S2 K N) 0) (k : Fin 3) (c : Fin C) (t : Fin N) (q : Fin K)
    (hq : k.val * C + c.val = q.val) :
    concatenate (S2 K N) 0 [⟨S2 C N, x 0⟩, ⟨S2 C N, x 1⟩, ⟨S2 C N, x 2⟩] hc (ix2 q t) = x k (ix2 c t) := by
  have off : ∀ b : Fin 2, b ≠ 0 → ((ix2 c t : (S2 C N).Idx) b).val = ((ix2 q t : (S2 K N).Idx) b).val := by
    intro b hb
    fin_cases b
    · exact absurd rfl hb
    · rfl
  fin_cases k
  · exact concatenate_apply_piece (t := S2 K N) 0 [⟨S2 C N, x 0⟩, ⟨S2 C N, x 1⟩, ⟨S2 C N, x 2⟩] hc (ix2 q t) 0
      (by decide : 0 < 3) (S2 C N) (x 0) rfl rfl 0 rfl (ix2 c t) off (by simpa using hq)
  · exact concatenate_apply_piece (t := S2 K N) 0 [⟨S2 C N, x 0⟩, ⟨S2 C N, x 1⟩, ⟨S2 C N, x 2⟩] hc (ix2 q t) 1
      (by decide : 1 < 3) (S2 C N) (x 1) rfl rfl C (Nat.add_zero C) (ix2 c t) off (by simpa using hq)
  · exact concatenate_apply_piece (t := S2 K N) 0 [⟨S2 C N, x 0⟩, ⟨S2 C N, x 1⟩, ⟨S2 C N, x 2⟩] hc (ix2 q t) 2
      (by decide : 2 < 3) (S2 C N) (x 2) rfl rfl (C + (C + 0)) rfl (ix2 c t) off
      (by simp at hq ⊢; omega)

/-- One parity of the shifted rows at an entry. -/
theorem shiftHalf_apply {C R s M : Nat} (h : ShiftFacts C R s M) (p : Fin 2) (x : FVec Ideal (S2 C 1024) .bf16)
    (r : Fin R) (t : Fin 1024) (c : Fin C) (hc : c.val = 2 * r.val + p.val) :
    shiftHalf h p x (ix2 r t) = delay s (toRow x) c t := by
  have hs := h.cols
  unfold shiftHalf delay
  by_cases ht : s ≤ t.val
  · rw [if_pos ht, cols_right _ _ _ r t ⟨t.val - s, by omega⟩ (by show t.val - s + s = t.val; omega),
      extractStridedSlice_apply _ _ _ _ (ix2 r ⟨t.val - s, by omega⟩)
        (by intro a; fin_cases a <;> simp), rowsOfParity_apply]
    refine congrArg x ?_
    funext a
    fin_cases a
    · exact Fin.ext hc.symm
    · rfl
  · rw [if_neg ht, cols_left _ _ _ r t (⟨t.val, by omega⟩ : Fin s) rfl, rowsOfParity_apply]
    exact zero_bf16

/-- The shifted rows at an entry. -/
theorem shiftOp_apply {C R s M : Nat} (h : ShiftFacts C R s M) (x : FVec Ideal (S2 C 1024) .bf16)
    (c : Fin C) (t : Fin 1024) : shiftOp h x (ix2 c t) = delay s (toRow x) c t := by
  have hr := h.rows
  have hrow : (S2 C 1024).row (ix2 c t) = c.val := rfl
  have hj : ∀ f : (S2 R 1024).Idx, (f 0).val = c.val / 2 → f 1 = t → f = ix2 ⟨c.val / 2, by omega⟩ t := by
    intro f h0 h1
    funext a
    fin_cases a
    · exact Fin.ext h0
    · exact h1
  unfold shiftOp
  rw [interleaveRows_apply, hrow]
  split
  · refine (congrArg _ (hj _ rfl rfl)).trans ?_
    exact shiftHalf_apply h 0 x _ t c (by show c.val = 2 * (c.val / 2) + 0; omega)
  · refine (congrArg _ (hj _ rfl rfl)).trans ?_
    exact shiftHalf_apply h 1 x _ t c (by show c.val = 2 * (c.val / 2) + 1; omega)

/-- The weights of a convolution out of the matrix whose columns run over the taps, then the channels. -/
def taps {C K : Nat} (hK : K = C + C + C) (w : FVec Ideal (S2 64 K) .bf16) : Fin 64 → Fin C → Fin 3 → EReal :=
  fun o c j => w (ix2 o ⟨j.val * C + c.val, by
    have := c.isLt; have := j.isLt
    rcases j with ⟨_ | _ | _ | _, hj⟩ <;> simp <;> omega⟩)

/-- Two entries of one row are the same where their columns are. -/
theorem ix2_val {n K : Nat} {o : Fin n} (k k' : Fin K) (h : k.val = k'.val) : ix2 o k = ix2 o k' := by
  rw [Fin.ext h]

/-- A sum over three runs of channels. -/
theorem sum_three {C K : Nat} (hK : K = C + C + C) (f : Fin K → EReal) :
    ∑ k, f k = (∑ c : Fin C, f ⟨c.val, by omega⟩) + (∑ c : Fin C, f ⟨C + c.val, by omega⟩)
      + ∑ c : Fin C, f ⟨C + C + c.val, by omega⟩ := by
  subst hK
  rw [Fin.sum_univ_add, Fin.sum_univ_add]
  rfl

/-- The contraction of the stacked taps at an entry. -/
theorem matmul_stack_apply {C R s M s' M' K : Nat} (hK : K = C + C + C) (hs : s = 2 * s') (h : ShiftFacts C R s M)
    (h' : ShiftFacts C R s' M') (hc : Shape.Concatenates [S2 C 1024, S2 C 1024, S2 C 1024] (S2 K 1024) 0)
    (w : FVec Ideal (S2 64 K) .bf16) (x : FVec Ideal (S2 C 1024) .bf16) (o : Fin 64) (t : Fin 1024) :
    matmul (DotDims.plain 64 K 1024) none w (stackOp K h h' hc x) (constant (S2 64 1024) .f32 0x00000000#32) (ix2 o t)
      = (∑ c, taps hK w o c 0 * delay (2 * s') (toRow x) c t) + (∑ c, taps hK w o c 1 * delay s' (toRow x) c t)
        + ∑ c, taps hK w o c 2 * toRow x c t := by
  refine (Ideal.matmul_plain_apply none w (stackOp K h h' hc x) _ o t).trans ?_
  have hz : (constant (F := Ideal) (S2 64 1024) .f32 0x00000000#32) (ix2 o t) = (0 : EReal) := zero_f32
  refine (congrArg (· + _) hz).trans ?_
  rw [zero_add, sum_three hK]
  refine congrArg₂ (· + ·) (congrArg₂ (· + ·) ?_ ?_) ?_
  · refine Finset.sum_congr rfl fun c _ => congrArg₂ (· * ·) (congrArg w (ix2_val _ _ ?_)) ?_
    · simp
    · subst hs
      exact (rows_three ![shiftOp h x, shiftOp h' x, x] hc 0 c t _ (by simp)).trans (shiftOp_apply h x c t)
  · refine Finset.sum_congr rfl fun c _ => congrArg₂ (· * ·) (congrArg w (ix2_val _ _ ?_)) ?_
    · simp
    · exact (rows_three ![shiftOp h x, shiftOp h' x, x] hc 1 c t _ (by simp)).trans (shiftOp_apply h' x c t)
  · refine Finset.sum_congr rfl fun c _ => congrArg₂ (· * ·) (congrArg w (ix2_val _ _ ?_)) ?_
    · simp; omega
    · exact rows_three ![shiftOp h x, shiftOp h' x, x] hc 2 c t _ (by simp; omega)

/-- The bias column at an entry. -/
theorem colOp_apply {φ : FTy} (o : Nat) (ho : (S2 64 11).Slices ![0, o] (S2 64 1))
    (hb : (S2 64 1).Broadcasts (S2 64 1024)) (v : FVec Ideal (S2 64 11) φ) (q : Fin 11) (hq : q.val = o)
    (c : Fin 64) (t : Fin 1024) : colOp o ho hb v (ix2 c t) = v (ix2 c q) := by
  unfold colOp
  rw [broadcastTo_apply _ _ _ (ix2 c 0) (by intro a; fin_cases a <;> rfl),
    extractStridedSlice_apply _ _ _ _ (ix2 c q) (by intro a; fin_cases a <;> simp [hq])]

/-- A convolution of the stacked taps, cut at zero. -/
theorem convOp_stack {C R s M s' M' K : Nat} (hK : K = C + C + C) (hs : s = 2 * s') (h : ShiftFacts C R s M)
    (h' : ShiftFacts C R s' M') (hc : Shape.Concatenates [S2 C 1024, S2 C 1024, S2 C 1024] (S2 K 1024) 0)
    (w : FVec Ideal (S2 64 K) .bf16) (x : FVec Ideal (S2 C 1024) .bf16) (o : Nat)
    (ho : (S2 64 11).Slices ![0, o] (S2 64 1)) (v : FVec Ideal (S2 64 11) .bf16) (q : Fin 11) (hq : q.val = o)
    (hb) (hφ) :
    toRow (convOp w (stackOp K h h' hc x) (colOp o ho hb v) hφ)
      = relu (conv (taps hK w) (fun c => v (ix2 c q)) s' (toRow x)) := by
  funext c t
  show max (matmul _ none w (stackOp K h h' hc x) _ (ix2 c t) + colOp o ho hb v (ix2 c t))
    (Scalar.ofBits .bf16 0x0000#16 : Ideal .bf16) = _
  rw [matmul_stack_apply hK hs, colOp_apply o ho hb v q hq, zero_bf16]
  rfl

/-- What a later residual block adds to its input. -/
theorem convsOp_row {s M s' M' : Nat} (hs : s = 2 * s') (h : ShiftFacts 64 32 s M) (h' : ShiftFacts 64 32 s' M')
    (o1 o2 : Nat) (ho1) (ho2) (q1 q2 : Fin 11) (hq1 : q1.val = o1) (hq2 : q2.val = o2)
    (w1 w2 : FVec Ideal (S2 64 192) .bf16) (v : FVec Ideal (S2 64 11) .bf16) (x : FVec Ideal (S2 64 1024) .bf16) :
    toRow (addf x (convsOp h h' o1 o2 ho1 ho2 w1 w2 v x))
      = block s' (taps rfl w1) (fun c => v (ix2 c q1)) (taps rfl w2) (fun c => v (ix2 c q2)) (toRow x) := by
  funext c t
  show toRow x c t + toRow (convsOp h h' o1 o2 ho1 ho2 w1 w2 v x) c t = _
  unfold convsOp
  rw [convOp_stack (C := 64) rfl hs h h' _ _ _ o2 ho2 v q2 hq2, convOp_stack (C := 64) rfl hs h h' _ _ _ o1 ho1 v q1 hq1]
  rfl

/-- The first residual block. -/
theorem block0Op_row (w1 : FVec Ideal (S2 64 96) .bf16) (w2 : FVec Ideal (S2 64 192) .bf16)
    (wr : FVec Ideal (S2 64 32) .bf16) (aux : FVec Ideal (S2 64 11) .f32) (v : FVec Ideal (S2 64 11) .bf16)
    (x : FVec Ideal (S2 32 1024) .bf16) :
    toRow (block0Op w1 w2 wr aux v x)
      = block0 (taps (C := 32) rfl w1) (fun c => v (ix2 c 0)) (taps rfl w2) (fun c => v (ix2 c 1))
          (fun o c => wr (ix2 o c)) (fun c => aux (ix2 c 2)) (toRow x) := by
  funext c t
  unfold block0Op
  show toRow (convOp w2 _ _ _) c t + (matmul _ none wr x _ (ix2 c t) + colOp 2 _ _ aux (ix2 c t)) = _
  rw [convOp_stack (C := 64) rfl rfl shift64_2 shift64_1 _ _ _ 1 _ v 1 rfl,
    convOp_stack (C := 32) rfl rfl shift32_2 shift32_1 _ _ _ 0 _ v 0 rfl, colOp_apply 2 _ _ aux 2 rfl]
  refine congrArg (_ + ·) (congrArg (· + _) ?_)
  refine (Ideal.matmul_plain_apply none wr x _ c t).trans ?_
  refine (congrArg (· + _) (zero_f32 : (constant (F := Ideal) (S2 64 1024) .f32 0x00000000#32) (ix2 c t) = (0 : EReal))).trans ?_
  exact zero_add _

/-- The contraction of the heads at an entry. -/
theorem headsOp_apply (wh : FVec Ideal (S2 8 64) .bf16) (x : FVec Ideal (S2 64 1024) .bf16) (r : Fin 8) (t : Fin 1024) :
    headsOp wh x (ix2 r t) = ∑ c, wh (ix2 r c) * toRow x c t := by
  refine (Ideal.matmul_plain_apply none wh x _ r t).trans ?_
  refine (congrArg (· + _) (zero_f32 : (constant (F := Ideal) (S2 8 1024) .f32 0x00000000#32) (ix2 r t) = (0 : EReal))).trans ?_
  exact zero_add _

end Cert.Tcn

end

end
-- ==== Proof.KernelBlocks.lean ====
module

public import proofs.«01_k».proof.Proof.KernelOut
public import proofs.«01_k».proof.Proof.KernelStages

@[expose] public section

/-! The tables of `KernelTables` that only re-lay the blocks, entry by entry. -/

noncomputable section

namespace Cert.Tcn

open Idealize.ShloMosaic Cert.KernelIdeal Cert.KernelIdeal.Gen

variable {F : FTy → Type} [FloatOps F]

/-- A whole matrix loaded. -/
theorem ld_matrix {a b : Nat} {e : EltTy} (w : Vec F (S2 a b) e) (inb) (h : (S2 a b).ShapeCasts (S2 a b)) (i : Fin a) (j : Fin b) :
    shapeCast (S2 a b) (View.ld (Val := Elt F) w (Rect.unit (s := S2 a b) ![0, 0] (S2 a b).size inb)) h (ix2 i j)
      = w (ix2 i j) := by
  refine (shapeCast_apply (s := S2 a b) (t := S2 a b) _ h _ (ix2 i j) rfl).trans ?_
  exact View.ld_unit_apply_of (S := S2 a b) w ![0, 0] (S2 a b).size inb _ (ix2 i j) (by intro d; fin_cases d <;> simp)

/-- One matrix out of a stack loaded. -/
theorem ld_stacked {n a b : Nat} {e : EltTy} (w : Vec F ⟨3, ![n, a, b]⟩ e) (k : Fin n) (inb)
    (h : (⟨3, ![1, a, b]⟩ : Shape).ShapeCasts (S2 a b)) (i : Fin a) (j : Fin b) :
    shapeCast (S2 a b) (View.ld (Val := Elt F) w
      (Rect.unit (s := ⟨3, ![n, a, b]⟩) ![k.val, 0, 0] (⟨3, ![1, a, b]⟩ : Shape).size inb)) h (ix2 i j) = w (ix3 k i j) := by
  refine (shapeCast_apply (s := ⟨3, ![1, a, b]⟩) (t := S2 a b) _ h _ (ix3 (0 : Fin 1) i j) ?_).trans ?_
  · rw [Shape.rowMajor_val_two, Shape.rowMajor_val_three]
    simp
  · exact View.ld_unit_apply_of (S := ⟨3, ![n, a, b]⟩) w ![k.val, 0, 0] (⟨3, ![1, a, b]⟩ : Shape).size inb _ (ix3 k i j)
      (by intro d; fin_cases d <;> simp)

variable (B : Blocks F)

/-- The weights, the biases and the scalars as the body reads them are the blocks. -/
theorem wt0a_apply (i : Fin 64) (j : Fin 96) : wt0a B (ix2 i j) = B.w0a (ix2 i j) := ld_matrix (a := 64) (b := 96) B.w0a _ _ i j
@[inherit_doc wt0a_apply] theorem wt0b_apply (i : Fin 64) (j : Fin 192) : wt0b B (ix2 i j) = B.w0b (ix2 i j) :=
  ld_matrix (a := 64) (b := 192) B.w0b _ _ i j
@[inherit_doc wt0a_apply] theorem wt0r_apply (i : Fin 64) (j : Fin 32) : wt0r B (ix2 i j) = B.w0r (ix2 i j) :=
  ld_matrix (a := 64) (b := 32) B.w0r _ _ i j
@[inherit_doc wt0a_apply] theorem wtH_apply (i : Fin 8) (j : Fin 64) : wtH B (ix2 i j) = B.wh (ix2 i j) :=
  ld_matrix (a := 8) (b := 64) B.wh _ _ i j
@[inherit_doc wt0a_apply] theorem auxW_apply (i : Fin 64) (j : Fin 11) : auxW B (ix2 i j) = B.aux (ix2 i j) :=
  ld_matrix (a := 64) (b := 11) B.aux _ _ i j
@[inherit_doc wt0a_apply] theorem scalW_apply (j : Fin 128) : scalW B (ix2 (0 : Fin 1) j) = B.scal (ix2 (0 : Fin 1) j) :=
  ld_matrix (a := 1) (b := 128) B.scal _ _ 0 j
@[inherit_doc wt0a_apply] theorem auxN_apply (B : Blocks Ideal) (i : Fin 64) (j : Fin 11) : auxN B (ix2 i j) = B.aux (ix2 i j) :=
  auxW_apply B i j

/-- The weights of later block `k`. -/
theorem wtBlk_apply (w : Vec F S4x64x192 .bf16) (k : Fin 4) (i : Fin 64) (j : Fin 192) :
    wtBlk w k (ix2 i j) = w (ix3 k i j) := by
  fin_cases k
  · exact ld_stacked (n := 4) (a := 64) (b := 192) w 0 _ _ i j
  · exact ld_stacked (n := 4) (a := 64) (b := 192) w 1 _ _ i j
  · exact ld_stacked (n := 4) (a := 64) (b := 192) w 2 _ _ i j
  · exact ld_stacked (n := 4) (a := 64) (b := 192) w 3 _ _ i j

/-- The input rows of batch `k`. -/
theorem rows_apply (k : Fin 16) (i : Fin 32) (j : Fin 1024) : rows B k (ix2 i j) = B.x (ix3 k i j) := by
  fin_cases k
  · exact ld_stacked (n := 16) (a := 32) (b := 1024) B.x 0 _ _ i j
  · exact ld_stacked (n := 16) (a := 32) (b := 1024) B.x 1 _ _ i j
  · exact ld_stacked (n := 16) (a := 32) (b := 1024) B.x 2 _ _ i j
  · exact ld_stacked (n := 16) (a := 32) (b := 1024) B.x 3 _ _ i j
  · exact ld_stacked (n := 16) (a := 32) (b := 1024) B.x 4 _ _ i j
  · exact ld_stacked (n := 16) (a := 32) (b := 1024) B.x 5 _ _ i j
  · exact ld_stacked (n := 16) (a := 32) (b := 1024) B.x 6 _ _ i j
  · exact ld_stacked (n := 16) (a := 32) (b := 1024) B.x 7 _ _ i j
  · exact ld_stacked (n := 16) (a := 32) (b := 1024) B.x 8 _ _ i j
  · exact ld_stacked (n := 16) (a := 32) (b := 1024) B.x 9 _ _ i j
  · exact ld_stacked (n := 16) (a := 32) (b := 1024) B.x 10 _ _ i j
  · exact ld_stacked (n := 16) (a := 32) (b := 1024) B.x 11 _ _ i j
  · exact ld_stacked (n := 16) (a := 32) (b := 1024) B.x 12 _ _ i j
  · exact ld_stacked (n := 16) (a := 32) (b := 1024) B.x 13 _ _ i j
  · exact ld_stacked (n := 16) (a := 32) (b := 1024) B.x 14 _ _ i j
  · exact ld_stacked (n := 16) (a := 32) (b := 1024) B.x 15 _ _ i j

end Cert.Tcn

end

end
-- ==== Proof.Arrays.lean ====
module

public import proofs.«01_k».proof.Proof.Model
public import Idealize.ShloMosaic.Lib.Pointwise

@[expose] public section

/-! The argument arrays, and the network's parameters and one batch's input rows read off them. -/

noncomputable section

namespace Cert.Tcn

open Idealize.ShloMosaic

/-- The float arguments, the embedding already looked up for every batch. -/
structure Args where
  x : FVec Ideal ⟨3, ![128, 15, 1024]⟩ .f32
  emb : FVec Ideal ⟨2, ![128, 8]⟩ .f32
  w0a : FVec Ideal ⟨3, ![64, 23, 3]⟩ .f32
  b0a : FVec Ideal ⟨1, ![64]⟩ .f32
  w0b : FVec Ideal ⟨3, ![64, 64, 3]⟩ .f32
  b0b : FVec Ideal ⟨1, ![64]⟩ .f32
  w0r : FVec Ideal ⟨3, ![64, 23, 1]⟩ .f32
  b0r : FVec Ideal ⟨1, ![64]⟩ .f32
  wa : FVec Ideal ⟨4, ![4, 64, 64, 3]⟩ .f32
  ba : FVec Ideal ⟨2, ![4, 64]⟩ .f32
  wb : FVec Ideal ⟨4, ![4, 64, 64, 3]⟩ .f32
  bb : FVec Ideal ⟨2, ![4, 64]⟩ .f32
  petW : FVec Ideal ⟨3, ![1, 64, 1]⟩ .f32
  petB : FVec Ideal ⟨1, ![1]⟩ .f32
  pckW : FVec Ideal ⟨3, ![1, 64, 1]⟩ .f32
  pckB : FVec Ideal ⟨1, ![1]⟩ .f32
  aetW : FVec Ideal ⟨3, ![1, 66, 1]⟩ .f32
  aetB : FVec Ideal ⟨1, ![1]⟩ .f32

/-- The network's parameters. -/
def Args.params (a : Args) : Params where
  w0a o c j := a.w0a (ix3 o c j)
  b0a o := a.b0a (ix1 o)
  w0b o c j := a.w0b (ix3 o c j)
  b0b o := a.b0b (ix1 o)
  w0r o c := a.w0r (ix3 o c 0)
  b0r o := a.b0r (ix1 o)
  wa i o c j := a.wa (ix4 i o c j)
  ba i o := a.ba (ix2 i o)
  wb i o c j := a.wb (ix4 i o c j)
  bb i o := a.bb (ix2 i o)
  petW c := a.petW (ix3 0 c 0)
  petB := a.petB (ix1 0)
  pckW c := a.pckW (ix3 0 c 0)
  pckB := a.pckB (ix1 0)
  aetW c := a.aetW (ix3 0 c 0)
  aetB := a.aetB (ix1 0)

/-- The 23 input rows of batch `b`: the 15 series, then the 8 entries of the embedding, each held along the row. -/
def Args.input (a : Args) (b : Fin 128) : Row 23 :=
  fun c t => if h : c.val < 15 then a.x (ix3 b ⟨c.val, h⟩ t) else a.emb (ix2 b ⟨c.val - 15, by omega⟩)

end Cert.Tcn

end

end
-- ==== Proof.KernelHost.lean ====
module

public import proofs.«01_k».proof.Proof.Arrays
public import proofs.«01_k».proof.Proof.Gen.KernelIdeal.Value
public import Idealize.ShloMosaic.Lib.StableHlo.RunRead

@[expose] public section

/-! What the kernel's host operations hand to the launch, as terms over the argument arrays. -/

noncomputable section

namespace Cert.Tcn.Host

open Idealize.ShloMosaic Idealize.ShloMosaic.TcCoe Cert.KernelIdeal Cert.KernelIdeal.Gen

variable (a : Args)

/-- A block of zeros. -/
def zeros (s : Shape) (h : S_.BroadcastsInDim s (![] : Fin 0 → Fin s.rank)) : FVec Ideal s .f32 :=
  broadcastInDim s ![] h (constant (F := Ideal) S_ .f32 0x00000000#32)

/-- The input rows: the embedding, the series, and nine rows of zeros. -/
def x : FVec Ideal S128x32x1024 .bf16 :=
  truncf .bf16 (concatenate S128x32x1024 1
    [⟨S128x8x1024, broadcastInDim S128x8x1024 ![0, 1] bcast_S128x8_S128x8x1024_0_1 a.emb⟩, ⟨S128x15x1024, a.x⟩,
     ⟨S128x9x1024, zeros S128x9x1024 bcast_S_S128x9x1024⟩]
    concatenates_S128x8x1024_S128x15x1024_S128x9x1024_S128x32x1024_d1) bitsLt_bf16_f32

/-- The first convolution's weights, the channels in the order of the input rows, the taps before the channels. -/
def w0a : FVec Ideal S64x96 .bf16 :=
  truncf .bf16 (shapeCast S64x96 (transpose S64x3x32 [0, 2, 1] (concatenate S64x32x3 1
    [⟨S64x8x3, extractStridedSlice S64x8x3 ![0, 15, 0] a.w0a slices_S64x23x3_S64x8x3_0_15_0⟩,
     ⟨S64x15x3, extractStridedSlice S64x15x3 ![0, 0, 0] a.w0a slices_S64x23x3_S64x15x3_0_0_0⟩,
     ⟨S64x9x3, zeros S64x9x3 bcast_S_S64x9x3⟩] concatenates_S64x8x3_S64x15x3_S64x9x3_S64x32x3_d1)
    transposes_S64x32x3_S64x3x32_0_2_1) shapeCasts_S64x3x32_S64x96) bitsLt_bf16_f32

/-- The second convolution's weights, the taps before the channels. -/
def w0b : FVec Ideal S64x192 .bf16 :=
  truncf .bf16 (shapeCast S64x192 (transpose S64x3x64 [0, 2, 1] a.w0b transposes_S64x64x3_S64x3x64_0_2_1)
    shapeCasts_S64x3x64_S64x192) bitsLt_bf16_f32

/-- The weights that carry the input over the first residual block. -/
def w0r : FVec Ideal S64x32 .bf16 :=
  truncf .bf16 (shapeCast S64x32 (concatenate S64x32x1 1
    [⟨S64x8x1, extractStridedSlice S64x8x1 ![0, 15, 0] a.w0r slices_S64x23x1_S64x8x1_0_15_0⟩,
     ⟨S64x15x1, extractStridedSlice S64x15x1 ![0, 0, 0] a.w0r slices_S64x23x1_S64x15x1_0_0_0⟩,
     ⟨S64x9x1, zeros S64x9x1 bcast_S_S64x9x1⟩] concatenates_S64x8x1_S64x15x1_S64x9x1_S64x32x1_d1)
    shapeCasts_S64x32x1_S64x32) bitsLt_bf16_f32

/-- A stack of later weights, the taps before the channels. -/
def wLater (w : FVec Ideal S4x64x64x3 .f32) : FVec Ideal S4x64x192 .bf16 :=
  truncf .bf16 (shapeCast S4x64x192 (transpose S4x64x3x64 [0, 1, 3, 2] w transposes_S4x64x64x3_S4x64x3x64_0_1_3_2)
    shapeCasts_S4x64x3x64_S4x64x192) bitsLt_bf16_f32

/-- The heads' weights, three rows and five rows of zeros. -/
def wh : FVec Ideal S8x64 .bf16 :=
  truncf .bf16 (concatenate S8x64 0
    [⟨S1x64, shapeCast S1x64 a.petW shapeCasts_S1x64x1_S1x64⟩, ⟨S1x64, shapeCast S1x64 a.pckW shapeCasts_S1x64x1_S1x64⟩,
     ⟨S1x64, shapeCast S1x64 (extractStridedSlice S1x64x1 ![0, 0, 0] a.aetW slices_S1x66x1_S1x64x1_0_0_0)
       shapeCasts_S1x64x1_S1x64⟩,
     ⟨S5x64, zeros S5x64 bcast_S_S5x64⟩] concatenates_S1x64_S1x64_S1x64_S5x64_S8x64_d0) bitsLt_bf16_f32

/-- The biases, one column for each convolution. -/
def aux : FVec Ideal S64x11 .f32 :=
  concatenate S64x11 1
    [⟨S64x1, broadcastInDim S64x1 ![0] bcast_S64_S64x1_0 a.b0a⟩, ⟨S64x1, broadcastInDim S64x1 ![0] bcast_S64_S64x1_0 a.b0b⟩,
     ⟨S64x1, broadcastInDim S64x1 ![0] bcast_S64_S64x1_0 a.b0r⟩,
     ⟨S64x4, transpose S64x4 [1, 0] a.ba transposes_S4x64_S64x4_1_0⟩,
     ⟨S64x4, transpose S64x4 [1, 0] a.bb transposes_S4x64_S64x4_1_0⟩]
    concatenates_S64x1_S64x1_S64x1_S64x4_S64x4_S64x11_d1

/-- The heads' scalars in one row. -/
def scal : FVec Ideal S1x128 .f32 :=
  broadcastInDim S1x128 ![1] bcast_S128_S1x128_1 (concatenate S128 0
    [⟨S1, a.petB⟩, ⟨S1, a.pckB⟩, ⟨S1, a.aetB⟩,
     ⟨S2, shapeCast S2 (extractStridedSlice S1x2x1 ![0, 64, 0] a.aetW slices_S1x66x1_S1x2x1_0_64_0) shapeCasts_S1x2x1_S2⟩,
     ⟨S123, zeros S123 bcast_S_S123⟩] concatenates_S1_S1_S1_S2_S123_S128_d0)

variable (m : (ℓ : Loc nD τ sig) → Buf (Elt Ideal) ℓ) (c : Dev nD)

/-- The embedding's rows, looked up by the batch's index, a negative index counted from the end. -/
def lookup : FVec Ideal S128x8 .f32 :=
  Host.gather gather_S32x8_S128x1_S128x8_1_0_n_n_0_1_18 (m ((c : Thread nD τ).loc main_arg2))
    (broadcastInDim S128x1 ![0] bcast_S128_S128x1_0
      (select (cmpi .slt (m ((c : Thread nD τ).loc main_arg1)) (broadcastInDim S128 ![] bcast_S_S128 (constantI S_ 32 0#32)))
        (addi (m ((c : Thread nD τ).loc main_arg1)) (broadcastInDim S128 ![] bcast_S_S128 (constantI S_ 32 32#32)))
        (m ((c : Thread nD τ).loc main_arg1))))

/-- The arguments out of the memory that the kernel starts from. -/
def args : Args where
  x := m ((c : Thread nD τ).loc main_arg0)
  emb := lookup m c
  w0a := m ((c : Thread nD τ).loc main_arg3)
  b0a := m ((c : Thread nD τ).loc main_arg4)
  w0b := m ((c : Thread nD τ).loc main_arg5)
  b0b := m ((c : Thread nD τ).loc main_arg6)
  w0r := m ((c : Thread nD τ).loc main_arg7)
  b0r := m ((c : Thread nD τ).loc main_arg8)
  wa := m ((c : Thread nD τ).loc main_arg9)
  ba := m ((c : Thread nD τ).loc main_arg10)
  wb := m ((c : Thread nD τ).loc main_arg11)
  bb := m ((c : Thread nD τ).loc main_arg12)
  petW := m ((c : Thread nD τ).loc main_arg13)
  petB := m ((c : Thread nD τ).loc main_arg14)
  pckW := m ((c : Thread nD τ).loc main_arg15)
  pckB := m ((c : Thread nD τ).loc main_arg16)
  aetW := m ((c : Thread nD τ).loc main_arg17)
  aetB := m ((c : Thread nD τ).loc main_arg18)

/-- The launch's arrays as it finds them. -/
theorem V_x : V m c main_v10 = x (args m c) := by
  delta V
  after_reads_simp
  rfl
@[inherit_doc V_x] theorem V_w0a : V m c main_v17 = w0a (args m c) := by
  delta V
  after_reads_simp
  rfl
@[inherit_doc V_x] theorem V_w0b : V m c main_v20 = w0b (args m c) := by
  delta V
  after_reads_simp
  rfl
@[inherit_doc V_x] theorem V_w0r : V m c main_v26 = w0r (args m c) := by
  delta V
  after_reads_simp
  rfl
@[inherit_doc V_x] theorem V_wa : V m c main_v29 = wLater (args m c).wa := by
  delta V
  after_reads_simp
  rfl
@[inherit_doc V_x] theorem V_wb : V m c main_v32 = wLater (args m c).wb := by
  delta V
  after_reads_simp
  rfl
@[inherit_doc V_x] theorem V_wh : V m c main_v39 = wh (args m c) := by
  delta V
  after_reads_simp
  rfl
@[inherit_doc V_x] theorem V_aux : V m c main_v45 = aux (args m c) := by
  delta V
  after_reads_simp
  rfl
@[inherit_doc V_x] theorem V_scal : V m c main_v50 = scal (args m c) := by
  delta V
  after_reads_simp
  rfl

end Cert.Tcn.Host

end

end
-- ==== Proof.ChannelOrder.lean ====
module

public import proofs.«01_k».proof.Proof.Model
public import Mathlib.Algebra.BigOperators.Fin

@[expose] public section

/-! The kernel takes the 23 input channels in another order and pads them to 32 with zeros, in the input and in the
    weights alike. The sums over the channels, and so the convolutions, are the same. -/

noncomputable section

namespace Cert.Tcn

/-- 23 channels in the kernel's order: the last 8, the first 15, then 9 times `z`. -/
def reorder {α : Type} (z : α) (f : Fin 23 → α) : Fin 32 → α := fun c =>
  if h : c.val < 8 then f ⟨15 + c.val, by omega⟩
  else if h' : c.val < 23 then f ⟨c.val - 8, by omega⟩ else z

/-- A sum of products over the reordered channels. -/
theorem sum_reorder (w x : Fin 23 → EReal) : ∑ c, reorder 0 w c * reorder 0 x c = ∑ c, w c * x c := by
  have e : ∀ g : Fin 32 → EReal, ∑ c, g c
      = (∑ c : Fin 8, g ⟨c.val, by omega⟩) + (∑ c : Fin 15, g ⟨8 + c.val, by omega⟩) + ∑ c : Fin 9, g ⟨23 + c.val, by omega⟩ := by
    intro g
    rw [show (∑ c, g c) = ∑ c : Fin (8 + 15 + 9), g c from rfl, Fin.sum_univ_add, Fin.sum_univ_add]
    rfl
  have e' : ∀ g : Fin 23 → EReal, ∑ c, g c
      = (∑ c : Fin 15, g ⟨c.val, by omega⟩) + ∑ c : Fin 8, g ⟨15 + c.val, by omega⟩ := by
    intro g
    rw [show (∑ c, g c) = ∑ c : Fin (15 + 8), g c from rfl, Fin.sum_univ_add]
    rfl
  rw [e, e', add_comm (∑ c : Fin 15, _)]
  have h1 : ∀ f : Fin 23 → EReal, ∀ c : Fin 8, reorder 0 f ⟨c.val, by omega⟩ = f ⟨15 + c.val, by omega⟩ := by
    intro f c; simp [reorder]
  have h2 : ∀ f : Fin 23 → EReal, ∀ c : Fin 15, reorder 0 f ⟨8 + c.val, by omega⟩ = f ⟨c.val, by omega⟩ := by
    intro f c
    simp only [reorder]
    rw [dif_neg (by omega), dif_pos (by omega)]
    exact congrArg f (Fin.ext (by simp))
  have h3 : ∀ f : Fin 23 → EReal, ∀ c : Fin 9, reorder 0 f ⟨23 + c.val, by omega⟩ = 0 := by
    intro f c
    simp only [reorder]
    rw [dif_neg (by omega), dif_neg (by omega)]
  simp only [h1, h2, h3, zero_mul, Finset.sum_const_zero, add_zero]

/-- The shift goes through the new order. -/
theorem delay_reorder (s : Nat) (x : Row 23) : delay s (reorder (fun _ => 0) x) = reorder (fun _ => 0) (delay s x) := by
  funext c t
  by_cases ht : s ≤ t.val <;> simp only [delay, reorder, ht, if_true, if_false] <;> split_ifs <;> simp [delay, ht]

/-- A row of the reordered channels at an entry. -/
theorem reorder_apply (x : Row 23) (c : Fin 32) (t : Fin 1024) :
    reorder (fun _ => 0) x c t = reorder 0 (fun c => x c t) c := by
  unfold reorder
  split_ifs <;> rfl

/-- A tap of the reordered weights. -/
theorem reorder_tap (w : Fin 23 → Fin 3 → EReal) (c : Fin 32) (j : Fin 3) :
    reorder (fun _ => 0) w c j = reorder 0 (fun c => w c j) c := by
  unfold reorder
  split_ifs <;> rfl

/-- A convolution of the reordered channels. -/
theorem conv_reorder (w : Fin 64 → Fin 23 → Fin 3 → EReal) (b : Fin 64 → EReal) (d : Nat) (x : Row 23) :
    conv (fun o => reorder (fun _ => 0) (w o)) b d (reorder (fun _ => 0) x) = conv w b d x := by
  funext o t
  unfold conv
  rw [delay_reorder, delay_reorder]
  simp only [reorder_apply, reorder_tap, sum_reorder]

/-- The first residual block of the reordered channels. -/
theorem block0_reorder (w1 : Fin 64 → Fin 23 → Fin 3 → EReal) (b1 : Fin 64 → EReal) (w2 : Fin 64 → Fin 64 → Fin 3 → EReal)
    (b2 : Fin 64 → EReal) (wr : Fin 64 → Fin 23 → EReal) (br : Fin 64 → EReal) (x : Row 23) :
    block0 (fun o => reorder (fun _ => 0) (w1 o)) b1 w2 b2 (fun o => reorder 0 (wr o)) br (reorder (fun _ => 0) x)
      = block0 w1 b1 w2 b2 wr br x := by
  funext o t
  unfold block0 convs
  rw [conv_reorder]
  simp only [reorder_apply, sum_reorder]

end Cert.Tcn

end

end
-- ==== Proof.KernelWeights.lean ====
module

public import proofs.«01_k».proof.Proof.KernelHost
public import proofs.«01_k».proof.Proof.KernelStages
public import proofs.«01_k».proof.Proof.ChannelOrder

@[expose] public section

/-! The arrays that the host operations hand to the launch, entry by entry, over the argument arrays. -/

noncomputable section

namespace Cert.Tcn.Host

open Idealize.ShloMosaic Cert.KernelIdeal Cert.KernelIdeal.Gen

variable (a : Args)

theorem zeros_apply (s : Shape) (h) (i : s.Idx) : zeros s h i = 0 := by
  show (Scalar.ofBits .f32 0x00000000#32 : Ideal .f32) = 0
  exact zero_f32

/-- Three blocks along the middle axis, 8, 15 and 9 long, the last one zeros. -/
theorem concat_reorder {n k : Nat} (u : (⟨3, ![n, 8, k]⟩ : Shape).Idx → EReal) (v : (⟨3, ![n, 15, k]⟩ : Shape).Idx → EReal)
    (z : (⟨3, ![n, 9, k]⟩ : Shape).Idx → EReal) (hc : Shape.Concatenates [⟨3, ![n, 8, k]⟩, ⟨3, ![n, 15, k]⟩, ⟨3, ![n, 9, k]⟩] ⟨3, ![n, 32, k]⟩ 1)
    (f : Fin 23 → EReal) (i : Fin n) (t : Fin k) (hz : ∀ i, z i = 0)
    (hu : ∀ c : Fin 8, u (ix3 i c t) = f ⟨15 + c.val, by omega⟩) (hv : ∀ c : Fin 15, v (ix3 i c t) = f ⟨c.val, by omega⟩)
    (c : Fin 32) :
    concatenate (⟨3, ![n, 32, k]⟩ : Shape) 1 [⟨_, u⟩, ⟨_, v⟩, ⟨_, z⟩] hc (ix3 i c t) = reorder 0 f c := by
  have off : ∀ l : Nat, ∀ q : Fin l, ∀ b : Fin 3, b ≠ 1 →
      ((ix3 i q t : (⟨3, ![n, l, k]⟩ : Shape).Idx) b).val = ((ix3 i c t : (⟨3, ![n, 32, k]⟩ : Shape).Idx) b).val := by
    intro l q b hb
    fin_cases b
    · rfl
    · exact absurd rfl hb
    · rfl
  unfold reorder
  split_ifs with h h'
  · rw [← hu ⟨c.val, h⟩]
    exact concatenate_apply_piece (t := ⟨3, ![n, 32, k]⟩) 1 [⟨_, u⟩, ⟨_, v⟩, ⟨_, z⟩] hc (ix3 i c t) 0
      (by decide : 0 < 3) ⟨3, ![n, 8, k]⟩ u rfl rfl 0 rfl (ix3 i ⟨c.val, h⟩ t) (off 8 _) (Nat.zero_add _)
  · rw [show f ⟨c.val - 8, by omega⟩ = v (ix3 i ⟨c.val - 8, by omega⟩ t) from (hv ⟨c.val - 8, by omega⟩).symm]
    exact concatenate_apply_piece (t := ⟨3, ![n, 32, k]⟩) 1 [⟨_, u⟩, ⟨_, v⟩, ⟨_, z⟩] hc (ix3 i c t) 1
      (by decide : 1 < 3) ⟨3, ![n, 15, k]⟩ v rfl rfl 8 rfl (ix3 i ⟨c.val - 8, by omega⟩ t) (off 15 _)
      (by show 8 + (c.val - 8) = c.val; omega)
  · rw [← hz (ix3 i ⟨c.val - 23, by omega⟩ t)]
    exact concatenate_apply_piece (t := ⟨3, ![n, 32, k]⟩) 1 [⟨_, u⟩, ⟨_, v⟩, ⟨_, z⟩] hc (ix3 i c t) 2
      (by decide : 2 < 3) ⟨3, ![n, 9, k]⟩ z rfl rfl 23 rfl (ix3 i ⟨c.val - 23, by omega⟩ t) (off 9 _)
      (by show 23 + (c.val - 23) = c.val; omega)

/-- The input rows of batch `b`. -/
theorem x_apply (b : Fin 128) (c : Fin 32) (t : Fin 1024) :
    x a (ix3 b c t) = reorder (fun _ => 0) (a.input b) c t := by
  rw [reorder_apply]
  refine concat_reorder (n := 128) (k := 1024) _ _ _ concatenates_S128x8x1024_S128x15x1024_S128x9x1024_S128x32x1024_d1 _ b t
    (zeros_apply _ _) (fun q => ?_) (fun q => ?_) c
  · refine (broadcastInDim_apply _ _ _ _ (ix2 b q) (by intro d; fin_cases d <;> rfl)).trans ?_
    unfold Args.input
    rw [dif_neg (by simp)]
    exact congrArg a.emb (ix2_val _ _ (by simp))
  · unfold Args.input
    rw [dif_pos q.isLt]

/-- The first convolution's weights. -/
theorem w0a_taps : taps (C := 32) rfl (w0a a) = fun o => reorder (fun _ => 0) (a.params.w0a o) := by
  funext o c j
  rw [reorder_tap]
  have cast : ∀ y : FVec Ideal S64x32x3 .f32, ∀ q : Fin 96, q.val = j.val * 32 + c.val →
      (truncf .bf16 (shapeCast S64x96 (transpose S64x3x32 [0, 2, 1] y transposes_S64x32x3_S64x3x32_0_2_1)
        shapeCasts_S64x3x32_S64x96) bitsLt_bf16_f32 : FVec Ideal S64x96 .bf16) (ix2 o q)
        = y (ix3 o c j) := by
    intro y q hq
    refine (shapeCast_apply (s := S64x3x32) (t := S64x96)
      (transpose S64x3x32 [0, 2, 1] y transposes_S64x32x3_S64x3x32_0_2_1) shapeCasts_S64x3x32_S64x96 (ix2 o q) (ix3 o j c) ?_).trans ?_
    · rw [Shape.rowMajor_val_two, Shape.rowMajor_val_three]
      simp [hq]; ring
    exact transpose_apply _ _ _ _ (ix3 o c j) (by intro d; fin_cases d <;> rfl)
  refine (cast _ ⟨j.val * 32 + c.val, by omega⟩ rfl).trans ?_
  refine concat_reorder (n := 64) (k := 3) _ _ _ concatenates_S64x8x3_S64x15x3_S64x9x3_S64x32x3_d1 _ o j
    (zeros_apply _ _) (fun q => ?_) (fun q => ?_) c
  · exact extractStridedSlice_apply _ _ _ _ (ix3 o ⟨15 + q.val, by omega⟩ j) (by intro d; fin_cases d <;> simp)
  · exact extractStridedSlice_apply _ _ _ _ (ix3 o ⟨q.val, by omega⟩ j) (by intro d; fin_cases d <;> simp)

/-- The second convolution's weights. -/
theorem w0b_taps : taps (C := 64) rfl (w0b a) = a.params.w0b := by
  funext o c j
  show shapeCast S64x192 (transpose S64x3x64 _ a.w0b _) _ (ix2 o _) = _
  refine (shapeCast_apply _ _ _ (ix3 o j c) ?_).trans ?_
  · rw [Shape.rowMajor_val_two, Shape.rowMajor_val_three]
    simp; ring
  exact transpose_apply _ _ _ _ (ix3 o c j) (by intro d; fin_cases d <;> rfl)

/-- The weights that carry the input over the first residual block. -/
theorem w0r_apply (o : Fin 64) (c : Fin 32) : w0r a (ix2 o c) = reorder 0 (a.params.w0r o) c := by
  have cast : ∀ y : FVec Ideal S64x32x1 .f32,
      (truncf .bf16 (shapeCast S64x32 y shapeCasts_S64x32x1_S64x32) bitsLt_bf16_f32 : FVec Ideal S64x32 .bf16) (ix2 o c)
      = y (ix3 o c (0 : Fin 1)) := by
    intro y
    refine shapeCast_apply (s := S64x32x1) (t := S64x32) y shapeCasts_S64x32x1_S64x32 (ix2 o c) (ix3 o c (0 : Fin 1)) ?_
    rw [Shape.rowMajor_val_two, Shape.rowMajor_val_three]
    simp
  refine (cast _).trans ?_
  refine concat_reorder (n := 64) (k := 1) _ _ _ concatenates_S64x8x1_S64x15x1_S64x9x1_S64x32x1_d1 _ o 0
    (zeros_apply _ _) (fun q => ?_) (fun q => ?_) c
  · exact extractStridedSlice_apply _ _ _ _ (ix3 o ⟨15 + q.val, by omega⟩ (0 : Fin 1)) (by intro d; fin_cases d <;> simp)
  · exact extractStridedSlice_apply _ _ _ _ (ix3 o ⟨q.val, by omega⟩ (0 : Fin 1)) (by intro d; fin_cases d <;> simp)

/-- The stacked later weights. -/
theorem wLater_apply (w : FVec Ideal S4x64x64x3 .f32) (i : Fin 4) (o : Fin 64) (c : Fin 64) (j : Fin 3) (q : Fin 192)
    (hq : q.val = j.val * 64 + c.val) : wLater w (ix3 i o q) = w (ix4 i o c j) := by
  show shapeCast S4x64x192 (transpose S4x64x3x64 _ w _) _ (ix3 i o q) = _
  refine (shapeCast_apply _ _ _ (ix4 i o j c) ?_).trans ?_
  · rw [Shape.rowMajor_val_three, Shape.rowMajor_val_four]
    simp [hq]; ring
  exact transpose_apply _ _ _ _ (ix4 i o c j) (by intro d; fin_cases d <;> rfl)

/-- Four blocks of rows one under the other, at row `r` of the first three. -/
theorem wh_piece (v : Fin 3 → FVec Ideal S1x64 .f32) (z : FVec Ideal S5x64 .f32) (r : Fin 3) (c : Fin 64) :
    (truncf .bf16 (concatenate S8x64 0 [⟨S1x64, v 0⟩, ⟨S1x64, v 1⟩, ⟨S1x64, v 2⟩, ⟨S5x64, z⟩]
      concatenates_S1x64_S1x64_S1x64_S5x64_S8x64_d0) bitsLt_bf16_f32 : FVec Ideal S8x64 .bf16) (ix2 (⟨r.val, by omega⟩ : Fin 8) c) = v r (ix2 (0 : Fin 1) c) := by
  have off : ∀ b : Fin 2, b ≠ 0 → ((ix2 (0 : Fin 1) c : S1x64.Idx) b).val
      = ((ix2 (⟨r.val, by omega⟩ : Fin 8) c : S8x64.Idx) b).val := by
    intro b hb
    fin_cases b
    · exact absurd rfl hb
    · rfl
  fin_cases r
  · exact concatenate_apply_piece (t := S8x64) 0 [⟨S1x64, v 0⟩, ⟨S1x64, v 1⟩, ⟨S1x64, v 2⟩, ⟨S5x64, z⟩]
      concatenates_S1x64_S1x64_S1x64_S5x64_S8x64_d0 _ 0
      (by decide : 0 < 4) S1x64 (v 0) rfl rfl 0 rfl (ix2 (0 : Fin 1) c) off rfl
  · exact concatenate_apply_piece (t := S8x64) 0 [⟨S1x64, v 0⟩, ⟨S1x64, v 1⟩, ⟨S1x64, v 2⟩, ⟨S5x64, z⟩]
      concatenates_S1x64_S1x64_S1x64_S5x64_S8x64_d0 _ 1
      (by decide : 1 < 4) S1x64 (v 1) rfl rfl 1 rfl (ix2 (0 : Fin 1) c) off rfl
  · exact concatenate_apply_piece (t := S8x64) 0 [⟨S1x64, v 0⟩, ⟨S1x64, v 1⟩, ⟨S1x64, v 2⟩, ⟨S5x64, z⟩]
      concatenates_S1x64_S1x64_S1x64_S5x64_S8x64_d0 _ 2
      (by decide : 2 < 4) S1x64 (v 2) rfl rfl 2 rfl (ix2 (0 : Fin 1) c) off rfl

/-- A row of weights without its unit axis. -/
theorem wh_one (w : FVec Ideal S1x64x1 .f32) (h) (c : Fin 64) :
    shapeCast S1x64 w h (ix2 (0 : Fin 1) c) = w (ix3 (0 : Fin 1) c (0 : Fin 1)) := by
  refine shapeCast_apply _ _ _ _ ?_
  rw [Shape.rowMajor_val_two, Shape.rowMajor_val_three]
  simp

/-- The first head's weights. -/
theorem wh_0 (c : Fin 64) : wh a (ix2 (0 : Fin 8) c) = a.params.petW c := by
  refine (wh_piece ![_, _, _] _ 0 c).trans ?_
  exact wh_one _ _ c
/-- The second head's weights. -/
theorem wh_1 (c : Fin 64) : wh a (ix2 (1 : Fin 8) c) = a.params.pckW c := by
  refine (wh_piece ![_, _, _] _ 1 c).trans ?_
  exact wh_one _ _ c
/-- The third head's weights of the channels. -/
theorem wh_2 (c : Fin 64) : wh a (ix2 (2 : Fin 8) c) = a.params.aetW (Fin.castAdd 2 c) := by
  refine (wh_piece ![_, _, shapeCast S1x64 (extractStridedSlice S1x64x1 ![0, 0, 0] a.aetW slices_S1x66x1_S1x64x1_0_0_0)
    shapeCasts_S1x64x1_S1x64] _ 2 c).trans ?_
  refine (wh_one (extractStridedSlice S1x64x1 ![0, 0, 0] a.aetW slices_S1x66x1_S1x64x1_0_0_0) _ c).trans ?_
  exact extractStridedSlice_apply _ a.aetW slices_S1x66x1_S1x64x1_0_0_0 _ (ix3 (0 : Fin 1) (Fin.castAdd 2 c) (0 : Fin 1))
    (by intro d; fin_cases d <;> simp)

end Cert.Tcn.Host

end

end
-- ==== Proof.KernelBiases.lean ====
module

public import proofs.«01_k».proof.Proof.KernelHost
public import proofs.«01_k».proof.Proof.KernelStages

@[expose] public section

/-! The biases and the heads' scalars that the host operations hand to the launch, entry by entry. -/

noncomputable section

namespace Cert.Tcn.Host

open Idealize.ShloMosaic Cert.KernelIdeal Cert.KernelIdeal.Gen

/-- Columns side by side, at a column of the piece `k` that starts at `o`. -/
theorem aux_piece (v0 v1 v2 : FVec Ideal S64x1 .f32) (v3 v4 : FVec Ideal S64x4 .f32) (c : Fin 64) (q : Fin 11) :
    concatenate S64x11 1 [⟨S64x1, v0⟩, ⟨S64x1, v1⟩, ⟨S64x1, v2⟩, ⟨S64x4, v3⟩, ⟨S64x4, v4⟩]
      concatenates_S64x1_S64x1_S64x1_S64x4_S64x4_S64x11_d1 (ix2 c q)
      = if h : q.val < 3 then (![v0, v1, v2] : Fin 3 → FVec Ideal S64x1 .f32) ⟨q.val, h⟩ (ix2 c (0 : Fin 1))
        else if h' : q.val < 7 then v3 (ix2 c (⟨q.val - 3, by omega⟩ : Fin 4))
        else v4 (ix2 c (⟨q.val - 7, by omega⟩ : Fin 4)) := by
  have off : ∀ l : Nat, ∀ p : Fin l, ∀ b : Fin 2, b ≠ 1 →
      ((ix2 c p : (S2 64 l).Idx) b).val = ((ix2 c q : S64x11.Idx) b).val := by
    intro l p b hb
    fin_cases b
    · rfl
    · exact absurd rfl hb
  split_ifs with h h'
  · obtain ⟨_ | _ | _ | n, hn⟩ := q
    · exact concatenate_apply_piece (t := S64x11) 1
        [⟨S64x1, v0⟩, ⟨S64x1, v1⟩, ⟨S64x1, v2⟩, ⟨S64x4, v3⟩, ⟨S64x4, v4⟩] concatenates_S64x1_S64x1_S64x1_S64x4_S64x4_S64x11_d1 _ 0
        (by decide : 0 < 5) S64x1 v0 rfl rfl 0 rfl (ix2 c (0 : Fin 1)) (off 1 0) rfl
    · exact concatenate_apply_piece (t := S64x11) 1
        [⟨S64x1, v0⟩, ⟨S64x1, v1⟩, ⟨S64x1, v2⟩, ⟨S64x4, v3⟩, ⟨S64x4, v4⟩] concatenates_S64x1_S64x1_S64x1_S64x4_S64x4_S64x11_d1 _ 1
        (by decide : 1 < 5) S64x1 v1 rfl rfl 1 rfl (ix2 c (0 : Fin 1)) (off 1 0) rfl
    · exact concatenate_apply_piece (t := S64x11) 1
        [⟨S64x1, v0⟩, ⟨S64x1, v1⟩, ⟨S64x1, v2⟩, ⟨S64x4, v3⟩, ⟨S64x4, v4⟩] concatenates_S64x1_S64x1_S64x1_S64x4_S64x4_S64x11_d1 _ 2
        (by decide : 2 < 5) S64x1 v2 rfl rfl 2 rfl (ix2 c (0 : Fin 1)) (off 1 0) rfl
    · exact absurd h (by simp)
  · exact concatenate_apply_piece (t := S64x11) 1
        [⟨S64x1, v0⟩, ⟨S64x1, v1⟩, ⟨S64x1, v2⟩, ⟨S64x4, v3⟩, ⟨S64x4, v4⟩] concatenates_S64x1_S64x1_S64x1_S64x4_S64x4_S64x11_d1 _ 3
      (by decide : 3 < 5) S64x4 v3 rfl rfl 3 rfl (ix2 c (⟨q.val - 3, by omega⟩ : Fin 4)) (off 4 _)
      (by show 3 + (q.val - 3) = q.val; omega)
  · exact concatenate_apply_piece (t := S64x11) 1
        [⟨S64x1, v0⟩, ⟨S64x1, v1⟩, ⟨S64x1, v2⟩, ⟨S64x4, v3⟩, ⟨S64x4, v4⟩] concatenates_S64x1_S64x1_S64x1_S64x4_S64x4_S64x11_d1 _ 4
      (by decide : 4 < 5) S64x4 v4 rfl rfl 7 rfl (ix2 c (⟨q.val - 7, by omega⟩ : Fin 4)) (off 4 _)
      (by show 7 + (q.val - 7) = q.val; omega)

variable (a : Args)

/-- A column of biases. -/
theorem bias_col (v : FVec Ideal S64 .f32) (c : Fin 64) :
    broadcastInDim S64x1 ![0] bcast_S64_S64x1_0 v (ix2 c (0 : Fin 1)) = v (ix1 c) :=
  broadcastInDim_apply _ _ _ _ (ix1 c) (by intro d; fin_cases d; rfl)

/-- The first convolution's biases. -/
theorem aux_0 (c : Fin 64) : aux a (ix2 c (0 : Fin 11)) = a.params.b0a c := by
  refine (aux_piece _ _ _ _ _ c 0).trans ?_
  exact bias_col _ c
/-- The second convolution's biases. -/
theorem aux_1 (c : Fin 64) : aux a (ix2 c (1 : Fin 11)) = a.params.b0b c := by
  refine (aux_piece _ _ _ _ _ c 1).trans ?_
  exact bias_col _ c
/-- The biases of the first residual block's carried input. -/
theorem aux_2 (c : Fin 64) : aux a (ix2 c (2 : Fin 11)) = a.params.b0r c := by
  refine (aux_piece _ _ _ _ _ c 2).trans ?_
  exact bias_col _ c
/-- The biases of the later blocks' first convolutions. -/
theorem aux_a (i : Fin 4) (c : Fin 64) (q : Fin 11) (hq : q.val = 3 + i.val) : aux a (ix2 c q) = a.params.ba i c := by
  refine (aux_piece _ _ _ _ _ c q).trans ?_
  rw [dif_neg (by omega), dif_pos (by omega)]
  exact transpose_apply _ _ _ _ (ix2 i c) (by intro d; fin_cases d <;> simp [hq])
/-- The biases of the later blocks' second convolutions. -/
theorem aux_b (i : Fin 4) (c : Fin 64) (q : Fin 11) (hq : q.val = 7 + i.val) : aux a (ix2 c q) = a.params.bb i c := by
  refine (aux_piece _ _ _ _ _ c q).trans ?_
  rw [dif_neg (by omega), dif_neg (by omega)]
  exact transpose_apply _ _ _ _ (ix2 i c) (by intro d; fin_cases d <;> simp [hq])

/-- The scalars in one row, at the places that hold one. -/
theorem scal_piece (v : Fin 3 → FVec Ideal S1 .f32) (w : FVec Ideal Cert.KernelIdeal.S2 .f32) (z : FVec Ideal S123 .f32) :
    (∀ r : Fin 3, concatenate S128 0 [⟨S1, v 0⟩, ⟨S1, v 1⟩, ⟨S1, v 2⟩, ⟨Cert.KernelIdeal.S2, w⟩, ⟨S123, z⟩]
      concatenates_S1_S1_S1_S2_S123_S128_d0 (ix1 (⟨r.val, by omega⟩ : Fin 128)) = v r (ix1 (0 : Fin 1)))
    ∧ ∀ r : Fin 2, concatenate S128 0 [⟨S1, v 0⟩, ⟨S1, v 1⟩, ⟨S1, v 2⟩, ⟨Cert.KernelIdeal.S2, w⟩, ⟨S123, z⟩]
      concatenates_S1_S1_S1_S2_S123_S128_d0 (ix1 (⟨3 + r.val, by omega⟩ : Fin 128)) = w (ix1 r) := by
  have off : ∀ l : Nat, ∀ p : Fin l, ∀ q : Fin 128, ∀ b : Fin 1, b ≠ 0 →
      ((ix1 p : (⟨1, ![l]⟩ : Shape).Idx) b).val = ((ix1 q : S128.Idx) b).val := by
    intro l p q b hb
    exact absurd (Subsingleton.elim b 0) hb
  refine ⟨fun r => ?_, fun r => ?_⟩
  · fin_cases r
    · exact concatenate_apply_piece (t := S128) 0 [⟨S1, v 0⟩, ⟨S1, v 1⟩, ⟨S1, v 2⟩, ⟨Cert.KernelIdeal.S2, w⟩, ⟨S123, z⟩]
        concatenates_S1_S1_S1_S2_S123_S128_d0 _ 0 (by decide : 0 < 5) S1 (v 0) rfl rfl 0 rfl (ix1 (0 : Fin 1)) (off 1 0 _) rfl
    · exact concatenate_apply_piece (t := S128) 0 [⟨S1, v 0⟩, ⟨S1, v 1⟩, ⟨S1, v 2⟩, ⟨Cert.KernelIdeal.S2, w⟩, ⟨S123, z⟩]
        concatenates_S1_S1_S1_S2_S123_S128_d0 _ 1 (by decide : 1 < 5) S1 (v 1) rfl rfl 1 rfl (ix1 (0 : Fin 1)) (off 1 0 _) rfl
    · exact concatenate_apply_piece (t := S128) 0 [⟨S1, v 0⟩, ⟨S1, v 1⟩, ⟨S1, v 2⟩, ⟨Cert.KernelIdeal.S2, w⟩, ⟨S123, z⟩]
        concatenates_S1_S1_S1_S2_S123_S128_d0 _ 2 (by decide : 2 < 5) S1 (v 2) rfl rfl 2 rfl (ix1 (0 : Fin 1)) (off 1 0 _) rfl
  · exact concatenate_apply_piece (t := S128) 0 [⟨S1, v 0⟩, ⟨S1, v 1⟩, ⟨S1, v 2⟩, ⟨Cert.KernelIdeal.S2, w⟩, ⟨S123, z⟩]
      concatenates_S1_S1_S1_S2_S123_S128_d0 _ 3 (by decide : 3 < 5) Cert.KernelIdeal.S2 w rfl rfl 3 rfl (ix1 r) (off 2 r _) rfl

/-- The row of scalars under its unit axis. -/
theorem scal_row (v : FVec Ideal S128 .f32) (q : Fin 128) :
    broadcastInDim S1x128 ![1] bcast_S128_S1x128_1 v (ix2 (0 : Fin 1) q) = v (ix1 q) :=
  broadcastInDim_apply _ _ _ _ (ix1 q) (by intro d; fin_cases d; rfl)

/-- The last two weights of the third head. -/
theorem scal_last (p : Fin 2) : shapeCast Cert.KernelIdeal.S2 (extractStridedSlice S1x2x1 ![0, 64, 0] a.aetW slices_S1x66x1_S1x2x1_0_64_0)
      shapeCasts_S1x2x1_S2 (ix1 p) = a.aetW (ix3 (0 : Fin 1) (⟨64 + p.val, by omega⟩ : Fin 66) (0 : Fin 1)) := by
  refine (shapeCast_apply _ _ _ (ix3 (0 : Fin 1) p (0 : Fin 1)) ?_).trans ?_
  · rw [Shape.rowMajor_val_one, Shape.rowMajor_val_three]
    simp
  exact extractStridedSlice_apply _ _ _ _ _ (by intro d; fin_cases d <;> simp)

/-- The first head's bias. -/
theorem scal_0 : scal a (ix2 (0 : Fin 1) (0 : Fin 128)) = a.params.petB :=
  (scal_row _ 0).trans ((scal_piece ![_, _, _] _ _).1 0)
/-- The second head's bias. -/
theorem scal_1 : scal a (ix2 (0 : Fin 1) (1 : Fin 128)) = a.params.pckB :=
  (scal_row _ 1).trans ((scal_piece ![_, _, _] _ _).1 1)
/-- The third head's bias. -/
theorem scal_2 : scal a (ix2 (0 : Fin 1) (2 : Fin 128)) = a.params.aetB :=
  (scal_row _ 2).trans ((scal_piece ![_, _, _] _ _).1 2)
/-- The third head's weight of the first result. -/
theorem scal_3 : scal a (ix2 (0 : Fin 1) (3 : Fin 128)) = a.params.aetW 64 :=
  (scal_row _ 3).trans (((scal_piece ![_, _, _] _ _).2 0).trans (scal_last a 0))
/-- The third head's weight of the second result. -/
theorem scal_4 : scal a (ix2 (0 : Fin 1) (4 : Fin 128)) = a.params.aetW 65 :=
  (scal_row _ 4).trans (((scal_piece ![_, _, _] _ _).2 1).trans (scal_last a 1))

end Cert.Tcn.Host

end

end
-- ==== Proof.KernelPoint.lean ====
module

public import proofs.«01_k».proof.Proof.KernelBlocks
public import proofs.«01_k».proof.Proof.KernelWeights
public import proofs.«01_k».proof.Proof.KernelBiases

@[expose] public section

/-! What one grid point computes, over the extended reals: for each of its 16 batches the network of `Model` at that
    batch's input rows. -/

noncomputable section

namespace Cert.Tcn

open Idealize.ShloMosaic Cert.KernelIdeal Cert.KernelIdeal.Gen

/-- The blocks are those that the host operations make of the arguments `a`, the 16 batches being `g`. -/
structure Holds (a : Args) (g : Fin 16 → Fin 128) (B : Blocks Ideal) : Prop where
  x : ∀ k c t, B.x (ix3 k c t) = Host.x a (ix3 (g k) c t)
  w0a : B.w0a = Host.w0a a
  w0b : B.w0b = Host.w0b a
  w0r : B.w0r = Host.w0r a
  wa : B.wa = Host.wLater a.wa
  wb : B.wb = Host.wLater a.wb
  wh : B.wh = Host.wh a
  aux : B.aux = Host.aux a
  scal : B.scal = Host.scal a

variable {a : Args} {g : Fin 16 → Fin 128} {B : Blocks Ideal}

/-- The input rows. -/
theorem Holds.rows (h : Holds a g B) (k : Fin 16) : toRow (rows B k) = reorder (fun _ => 0) (a.input (g k)) := by
  funext c t
  exact ((rows_apply B k c t).trans (h.x k c t)).trans (Host.x_apply a (g k) c t)

/-- The biases. -/
theorem Holds.auxN (h : Holds a g B) (i : Fin 64) (j : Fin 11) : auxN B (ix2 i j) = Host.aux a (ix2 i j) :=
  (auxN_apply B i j).trans (congrFun h.aux _)

/-- A later block's weights. -/
theorem taps_later (w : FVec Ideal S4x64x64x3 .f32) (W : Vec Ideal S4x64x192 .bf16) (hW : W = Host.wLater w) (i : Fin 4) :
    taps (C := 64) rfl (wtBlk W i) = fun o c j => w (ix4 i o c j) := by
  funext o c j
  subst hW
  exact (wtBlk_apply _ i o _).trans (Host.wLater_apply w i o c j _ rfl)

/-- What the first residual block leaves. -/
theorem Holds.feat0 (h : Holds a g B) (k : Fin 16) : toRow (feat0 B k) = a.params.f0 (a.input (g k)) := by
  rw [feat0_eq]
  refine (block0Op_row _ _ _ _ _ _).trans ?_
  have e1 : taps (C := 32) rfl (wt0a B) = fun o => reorder (fun _ => 0) (a.params.w0a o) := by
    refine Eq.trans ?_ (Host.w0a_taps a)
    funext o c j
    exact (wt0a_apply B o _).trans (congrFun h.w0a _)
  have e2 : taps (C := 64) rfl (wt0b B) = a.params.w0b := by
    refine Eq.trans ?_ (Host.w0b_taps a)
    funext o c j
    exact (wt0b_apply B o _).trans (congrFun h.w0b _)
  have e3 : (fun (o : Fin 64) (c : Fin 32) => wt0r B (ix2 o c)) = fun o => reorder 0 (a.params.w0r o) := by
    funext o c
    exact ((wt0r_apply B o c).trans (congrFun h.w0r _)).trans (Host.w0r_apply a o c)
  have b1 : (fun c : Fin 64 => Cert.Tcn.auxN B (ix2 c 0)) = a.params.b0a := by
    funext c
    exact (h.auxN c 0).trans (Host.aux_0 a c)
  have b2 : (fun c : Fin 64 => Cert.Tcn.auxN B (ix2 c 1)) = a.params.b0b := by
    funext c
    exact (h.auxN c 1).trans (Host.aux_1 a c)
  have b3 : (fun c : Fin 64 => auxW B (ix2 c 2)) = a.params.b0r := by
    funext c
    exact ((auxW_apply B c 2).trans (congrFun h.aux _)).trans (Host.aux_2 a c)
  rw [e1, e2, e3, b1, b2, b3, h.rows k]
  exact block0_reorder _ _ _ _ _ _ _

/-- A later residual block. -/
theorem Holds.later (h : Holds a g B) (i : Fin 4) {s M s' M' : Nat} (hs : s = 2 * s') (h1 : ShiftFacts 64 32 s M)
    (h2 : ShiftFacts 64 32 s' M') (o1 o2 : Nat) (ho1) (ho2) (q1 q2 : Fin 11) (hq1 : q1.val = o1) (hq2 : q2.val = o2)
    (e1 : o1 = 3 + i.val) (e2 : o2 = 7 + i.val) (x : FVec Ideal (S2 64 1024) .bf16) :
    toRow (addf x (convsOp h1 h2 o1 o2 ho1 ho2 (wtBlk B.wa i) (wtBlk B.wb i) (Cert.Tcn.auxN B) x))
      = a.params.later i s' (toRow x) := by
  refine (convsOp_row hs h1 h2 o1 o2 ho1 ho2 q1 q2 hq1 hq2 _ _ _ x).trans ?_
  have b1 : (fun c : Fin 64 => Cert.Tcn.auxN B (ix2 c q1)) = a.params.ba i := by
    funext c
    exact (h.auxN c q1).trans (Host.aux_a a i c q1 (hq1.trans e1))
  have b2 : (fun c : Fin 64 => Cert.Tcn.auxN B (ix2 c q2)) = a.params.bb i := by
    funext c
    exact (h.auxN c q2).trans (Host.aux_b a i c q2 (hq2.trans e2))
  rw [taps_later _ _ h.wa i, taps_later _ _ h.wb i, b1, b2]
  rfl

/-- What the five residual blocks leave. -/
theorem Holds.feats (h : Holds a g B) (k : Fin 16) (r : Fin 8) (t : Fin 1024) :
    heads B k (ix2 r t) = ∑ c, Host.wh a (ix2 r c) * a.params.feats (a.input (g k)) c t := by
  rw [heads_eq]
  refine (headsOp_apply _ _ r t).trans ?_
  have e : toRow (addf (feat3 B k) (convsOp shift64_32 shift64_16 6 10 (by decide) (by decide)
      (wtBlk B.wa 3) (wtBlk B.wb 3) (Cert.Tcn.auxN B) (feat3 B k))) = a.params.feats (a.input (g k)) := by
    rw [h.later 3 (s' := 16) rfl shift64_32 shift64_16 6 10 _ _ 6 10 rfl rfl rfl rfl, feat3_eq,
      h.later 2 (s' := 8) rfl shift64_16 shift64_8 5 9 _ _ 5 9 rfl rfl rfl rfl, feat2_eq,
      h.later 1 (s' := 4) rfl shift64_8 shift64_4 4 8 _ _ 4 8 rfl rfl rfl rfl, feat1_eq,
      h.later 0 (s' := 2) rfl shift64_4 shift64_2 3 7 _ _ 3 7 rfl rfl rfl rfl, h.feat0 k]
    rfl
  rw [e]
  exact Finset.sum_congr rfl fun c _ => congrArg (· * _) ((wtH_apply B r c).trans (congrFun h.wh _))

/-- The kernel's softplus at an entry. -/
theorem softplusOp_apply (d : FVec Ideal S1x1024 .f32) (i : S1x1024.Idx) : softplusOp d i = softplus (d i) := by
  have z : (Scalar.ofBits .f32 0x00000000#32 : Ideal .f32) = (0 : EReal) := zero_f32
  show (if (Ideal.cmp .one (d i - (Scalar.ofBits .f32 0x00000000#32 : Ideal .f32)) (d i - (Scalar.ofBits .f32 0x00000000#32 : Ideal .f32))) = 1#1
    then (d i + (Scalar.ofBits .f32 0x00000000#32 : Ideal .f32) : EReal)
    else (max (d i) (Scalar.ofBits .f32 0x00000000#32 : Ideal .f32) : EReal)
      + Ideal.log1p (Ideal.exp ((Scalar.ofBits .f32 0x00000000#32 : Ideal .f32)
        - max (d i - (Scalar.ofBits .f32 0x00000000#32 : Ideal .f32)) (-(d i - (Scalar.ofBits .f32 0x00000000#32 : Ideal .f32)))))) = _
  rw [z]
  have hc : ∀ x : EReal, Ideal.cmp .one x x = 0#1 := by
    intro x
    simp [Ideal.cmp]
  simp only [sub_zero, zero_sub]
  erw [hc]
  rfl

/-- One of the scalars at an entry. -/
theorem scalOp_apply (o : Nat) (ho) (s : FVec Ideal S1x128 .f32) (q : Fin 128) (hq : q.val = o) (t : Fin 1024) :
    scalOp o ho s (ix2 (0 : Fin 1) t) = s (ix2 (0 : Fin 1) q) := by
  unfold scalOp
  rw [broadcastTo_apply _ _ _ (ix2 (0 : Fin 1) (0 : Fin 1)) (by intro a; fin_cases a <;> rfl),
    extractStridedSlice_apply _ _ _ _ (ix2 (0 : Fin 1) q) (by intro a; fin_cases a <;> simp [hq])]

/-- One row of the heads' contraction at an entry. -/
theorem rowOp_apply (o : Nat) (ho) (x : FVec Ideal S8x1024 .f32) (q : Fin 8) (hq : q.val = o) (t : Fin 1024) :
    rowOp o ho x (ix2 (0 : Fin 1) t) = x (ix2 q t) := by
  unfold rowOp
  rw [extractStridedSlice_apply _ _ _ _ (ix2 q t) (by intro a; fin_cases a <;> simp [hq])]

/-- The scalars. -/
theorem Holds.scalW (h : Holds a g B) (j : Fin 128) : scalW B (ix2 (0 : Fin 1) j) = Host.scal a (ix2 (0 : Fin 1) j) :=
  (scalW_apply B j).trans (congrFun h.scal _)

/-- The first result. -/
theorem Holds.pet (h : Holds a g B) (k : Fin 16) (t : Fin 1024) :
    petOp (Cert.Tcn.scalW B) (heads B k) (ix2 (0 : Fin 1) t) = a.params.pet (a.input (g k)) t := by
  refine (softplusOp_apply _ _).trans (congrArg softplus ?_)
  refine congrArg₂ (· + ·) ?_ ?_
  · rw [rowOp_apply 0 _ _ 0 rfl, h.feats]
    exact Finset.sum_congr rfl fun c _ => congrArg (· * _) (Host.wh_0 a c)
  · rw [scalOp_apply 0 _ _ 0 rfl, h.scalW]
    exact Host.scal_0 a

/-- The second result. -/
theorem Holds.pck (h : Holds a g B) (k : Fin 16) (t : Fin 1024) :
    pckOp (Cert.Tcn.scalW B) (heads B k) (ix2 (0 : Fin 1) t) = a.params.pck (a.input (g k)) t := by
  refine (softplusOp_apply _ _).trans (congrArg softplus ?_)
  refine congrArg₂ (· + ·) ?_ ?_
  · rw [rowOp_apply 1 _ _ 1 rfl, h.feats]
    exact Finset.sum_congr rfl fun c _ => congrArg (· * _) (Host.wh_1 a c)
  · rw [scalOp_apply 1 _ _ 1 rfl, h.scalW]
    exact Host.scal_1 a

/-- The third result. -/
theorem Holds.aet (h : Holds a g B) (k : Fin 16) (t : Fin 1024) :
    aetOp (Cert.Tcn.scalW B) (heads B k) (ix2 (0 : Fin 1) t) = a.params.aet (a.input (g k)) t := by
  refine congrArg₂ (fun u v : EReal => u * v) ?_ (h.pet k t)
  refine congrArg Ideal.logistic ?_
  refine congrArg₂ (fun u v : EReal => u + v) (congrArg₂ (fun u v : EReal => u + v) (congrArg₂ (fun u v : EReal => u + v) ?_ ?_)
    (congrArg₂ (fun u v : EReal => u * v) ?_ (h.pet k t))) (congrArg₂ (fun u v : EReal => u * v) ?_ (h.pck k t))
  · rw [rowOp_apply 2 _ _ 2 rfl, h.feats]
    exact Finset.sum_congr rfl fun c _ => congrArg (· * _) (Host.wh_2 a c)
  · rw [scalOp_apply 2 _ _ 2 rfl, h.scalW]
    exact Host.scal_2 a
  · rw [scalOp_apply 3 _ _ 3 rfl, h.scalW]
    exact Host.scal_3 a
  · rw [scalOp_apply 4 _ _ 4 rfl, h.scalW]
    exact Host.scal_4 a

/-- The fourth result. -/
theorem Holds.cwd (h : Holds a g B) (k : Fin 16) (t : Fin 1024) :
    cwdOp (Cert.Tcn.scalW B) (heads B k) (ix2 (0 : Fin 1) t) = a.params.cwd (a.input (g k)) t :=
  congrArg₂ (fun u v : EReal => u - v) (h.pet k t) (h.aet k t)

end Cert.Tcn

end

end
-- ==== Proof.KernelArrays.lean ====
module

public import proofs.«01_k».proof.Proof.KernelPoint

@[expose] public section

/-! The kernel's result arrays: at every batch and every time step the network of `Model`. -/

noncomputable section

namespace Cert.Tcn

open Idealize.ShloMosaic Idealize.ShloMosaic.TcCoe Cert.KernelIdeal Cert.KernelIdeal.Gen

variable (m : (ℓ : Loc nD τ sig) → Buf (Elt Ideal) ℓ) (c : Dev nD)

/-- The blocks of grid point `t`. -/
def blocksAt (t : Fin cfg0.N) : Blocks Ideal where
  x := iblk m c 0 t
  w0a := iblk m c 1 t
  w0b := iblk m c 2 t
  w0r := iblk m c 3 t
  wa := iblk m c 4 t
  wb := iblk m c 5 t
  wh := iblk m c 6 t
  aux := iblk m c 7 t
  scal := iblk m c 8 t

/-- The 16 batches of grid point `t`. -/
def batchOf (t : Fin cfg0.N) (k : Fin 16) : Fin 128 := ⟨t.val * 16 + k.val, by
  have h : t.val < 8 := t.isLt
  omega⟩

/-- Where the windows stand at grid point `t`: the rows and the results at block `t`, the other arrays whole. -/
theorem index0 : ∀ t : Fin cfg0.N, win0_0.index t = ![t.val, 0, 0] :=
  (by decide +kernel : ∀ t : Fin grid0.N, win0_0.index t = ![t.val, 0, 0])
@[inherit_doc index0] theorem index1 : ∀ t : Fin cfg0.N, win0_1.index t = ![0, 0] :=
  (by decide +kernel : ∀ t : Fin grid0.N, win0_1.index t = ![0, 0])
@[inherit_doc index0] theorem index2 : ∀ t : Fin cfg0.N, win0_2.index t = ![0, 0] :=
  (by decide +kernel : ∀ t : Fin grid0.N, win0_2.index t = ![0, 0])
@[inherit_doc index0] theorem index3 : ∀ t : Fin cfg0.N, win0_3.index t = ![0, 0] :=
  (by decide +kernel : ∀ t : Fin grid0.N, win0_3.index t = ![0, 0])
@[inherit_doc index0] theorem index4 : ∀ t : Fin cfg0.N, win0_4.index t = ![0, 0, 0] :=
  (by decide +kernel : ∀ t : Fin grid0.N, win0_4.index t = ![0, 0, 0])
@[inherit_doc index0] theorem index5 : ∀ t : Fin cfg0.N, win0_5.index t = ![0, 0, 0] :=
  (by decide +kernel : ∀ t : Fin grid0.N, win0_5.index t = ![0, 0, 0])
@[inherit_doc index0] theorem index6 : ∀ t : Fin cfg0.N, win0_6.index t = ![0, 0] :=
  (by decide +kernel : ∀ t : Fin grid0.N, win0_6.index t = ![0, 0])
@[inherit_doc index0] theorem index7 : ∀ t : Fin cfg0.N, win0_7.index t = ![0, 0] :=
  (by decide +kernel : ∀ t : Fin grid0.N, win0_7.index t = ![0, 0])
@[inherit_doc index0] theorem index8 : ∀ t : Fin cfg0.N, win0_8.index t = ![0, 0] :=
  (by decide +kernel : ∀ t : Fin grid0.N, win0_8.index t = ![0, 0])
@[inherit_doc index0] theorem index9 : ∀ t : Fin cfg0.N, win0_9.index t = ![t.val, 0, 0] :=
  (by decide +kernel : ∀ t : Fin grid0.N, win0_9.index t = ![t.val, 0, 0])
@[inherit_doc index0] theorem index10 : ∀ t : Fin cfg0.N, win0_10.index t = ![t.val, 0, 0] :=
  (by decide +kernel : ∀ t : Fin grid0.N, win0_10.index t = ![t.val, 0, 0])
@[inherit_doc index0] theorem index11 : ∀ t : Fin cfg0.N, win0_11.index t = ![t.val, 0, 0] :=
  (by decide +kernel : ∀ t : Fin grid0.N, win0_11.index t = ![t.val, 0, 0])
@[inherit_doc index0] theorem index12 : ∀ t : Fin cfg0.N, win0_12.index t = ![t.val, 0, 0] :=
  (by decide +kernel : ∀ t : Fin grid0.N, win0_12.index t = ![t.val, 0, 0])

/-- The input rows' block of grid point `t`. -/
theorem blk_x (t : Fin cfg0.N) (k : Fin 16) (r : Fin 32) (j : Fin 1024) :
    (blocksAt m c t).x (ix3 k r j) = Host.x (Host.args m c) (ix3 (batchOf t k) r j) := by
  show iblk m c 0 t (ix3 k r j) = _
  blk_simp [iblk]
  rw [Host.V_x]
  refine congrArg (Host.x _) ?_
  blk_ext [index0, batchOf]

/-- Every other block is its whole array. -/
theorem blk_w0a (t : Fin cfg0.N) : (blocksAt m c t).w0a = Host.w0a (Host.args m c) := by
  show iblk m c 1 t = _
  funext i
  blk_simp [iblk]
  rw [Host.V_w0a]
  refine congrArg (Host.w0a (Host.args m c)) ?_
  blk_ext [index1]

@[inherit_doc blk_w0a] theorem blk_w0b (t : Fin cfg0.N) : (blocksAt m c t).w0b = Host.w0b (Host.args m c) := by
  show iblk m c 2 t = _
  funext i
  blk_simp [iblk]
  rw [Host.V_w0b]
  refine congrArg (Host.w0b (Host.args m c)) ?_
  blk_ext [index2]

@[inherit_doc blk_w0a] theorem blk_w0r (t : Fin cfg0.N) : (blocksAt m c t).w0r = Host.w0r (Host.args m c) := by
  show iblk m c 3 t = _
  funext i
  blk_simp [iblk]
  rw [Host.V_w0r]
  refine congrArg (Host.w0r (Host.args m c)) ?_
  blk_ext [index3]

@[inherit_doc blk_w0a] theorem blk_wa (t : Fin cfg0.N) : (blocksAt m c t).wa = Host.wLater (Host.args m c).wa := by
  show iblk m c 4 t = _
  funext i
  blk_simp [iblk]
  rw [Host.V_wa]
  refine congrArg (Host.wLater (Host.args m c).wa) ?_
  blk_ext [index4]

@[inherit_doc blk_w0a] theorem blk_wb (t : Fin cfg0.N) : (blocksAt m c t).wb = Host.wLater (Host.args m c).wb := by
  show iblk m c 5 t = _
  funext i
  blk_simp [iblk]
  rw [Host.V_wb]
  refine congrArg (Host.wLater (Host.args m c).wb) ?_
  blk_ext [index5]

@[inherit_doc blk_w0a] theorem blk_wh (t : Fin cfg0.N) : (blocksAt m c t).wh = Host.wh (Host.args m c) := by
  show iblk m c 6 t = _
  funext i
  blk_simp [iblk]
  rw [Host.V_wh]
  refine congrArg (Host.wh (Host.args m c)) ?_
  blk_ext [index6]

@[inherit_doc blk_w0a] theorem blk_aux (t : Fin cfg0.N) : (blocksAt m c t).aux = Host.aux (Host.args m c) := by
  show iblk m c 7 t = _
  funext i
  blk_simp [iblk]
  rw [Host.V_aux]
  refine congrArg (Host.aux (Host.args m c)) ?_
  blk_ext [index7]

@[inherit_doc blk_w0a] theorem blk_scal (t : Fin cfg0.N) : (blocksAt m c t).scal = Host.scal (Host.args m c) := by
  show iblk m c 8 t = _
  funext i
  blk_simp [iblk]
  rw [Host.V_scal]
  refine congrArg (Host.scal (Host.args m c)) ?_
  blk_ext [index8]

/-- The blocks hold what the host operations make of the arguments. -/
theorem holds (t : Fin cfg0.N) : Holds (Host.args m c) (batchOf t) (blocksAt m c t) where
  x := blk_x m c t
  w0a := blk_w0a m c t
  w0b := blk_w0b m c t
  w0r := blk_w0r m c t
  wa := blk_wa m c t
  wb := blk_wb m c t
  wh := blk_wh m c t
  aux := blk_aux m c t
  scal := blk_scal m c t

/-- Where a row of grid point `t` lies in the first result's array. -/
theorem emb9 (t : Fin cfg0.N) (k : Fin 16) (j : Fin 1024) :
    (win0_9.blk t).view.emb (ix3 k (0 : Fin 1) j) = ix3 (batchOf t k) (0 : Fin 1) j := by
  blk_ext [index9, batchOf]

/-- What grid point `t` leaves of the first result. -/
theorem pet_point (t : Fin cfg0.N) (k : Fin 16) (j : Fin 1024) : (blocksAt m c t).on out0_9 (ix3 k (0 : Fin 1) j)
    = (Host.args m c).params.pet ((Host.args m c).input (batchOf t k)) j := by
  rw [out9_eq]
  exact (rowsStored_apply _ k j).trans ((holds m c t).pet k j)

/-- The first result's array. -/
theorem pet_array : (dats m 0 c).arrAt 9 cfg0.N
    = (fun i => (Host.args m c).params.pet ((Host.args m c).input (i 0)) (i 2) : FVec Ideal S128x1x1024 .f32) := by
  refine (dats m 0 c).arrAt_eq_of_covers 9 _ (by decide +kernel) fun t hf y => ?_
  blk_simp
  rw [after0_9]
  obtain ⟨k, j, rfl⟩ : ∃ k : Fin 16, ∃ j : Fin 1024, y = (ix3 k (0 : Fin 1) j : S16x1x1024.Idx) := by
    refine ⟨y 0, y 2, ?_⟩
    funext d
    fin_cases d
    · rfl
    · exact Subsingleton.elim (α := Fin 1) _ _
    · rfl
  rw [emb9 t k j]
  have h := pet_point m c t k j
  unfold Blocks.on blocksAt at h
  dsimp only at h
  simp only [ix3_0, ix3_2]
  exact h

/-- Where a row of grid point `t` lies in the second result's array. -/
theorem emb10 (t : Fin cfg0.N) (k : Fin 16) (j : Fin 1024) :
    (win0_10.blk t).view.emb (ix3 k (0 : Fin 1) j) = ix3 (batchOf t k) (0 : Fin 1) j := by
  blk_ext [index10, batchOf]

/-- What grid point `t` leaves of the second result. -/
theorem pck_point (t : Fin cfg0.N) (k : Fin 16) (j : Fin 1024) : (blocksAt m c t).on out0_10 (ix3 k (0 : Fin 1) j)
    = (Host.args m c).params.pck ((Host.args m c).input (batchOf t k)) j := by
  rw [out10_eq]
  exact (rowsStored_apply _ k j).trans ((holds m c t).pck k j)

/-- The second result's array. -/
theorem pck_array : (dats m 0 c).arrAt 10 cfg0.N
    = (fun i => (Host.args m c).params.pck ((Host.args m c).input (i 0)) (i 2) : FVec Ideal S128x1x1024 .f32) := by
  refine (dats m 0 c).arrAt_eq_of_covers 10 _ (by decide +kernel) fun t hf y => ?_
  blk_simp
  rw [after0_10]
  obtain ⟨k, j, rfl⟩ : ∃ k : Fin 16, ∃ j : Fin 1024, y = (ix3 k (0 : Fin 1) j : S16x1x1024.Idx) := by
    refine ⟨y 0, y 2, ?_⟩
    funext d
    fin_cases d
    · rfl
    · exact Subsingleton.elim (α := Fin 1) _ _
    · rfl
  rw [emb10 t k j]
  have h := pck_point m c t k j
  unfold Blocks.on blocksAt at h
  dsimp only at h
  simp only [ix3_0, ix3_2]
  exact h

/-- Where a row of grid point `t` lies in the third result's array. -/
theorem emb11 (t : Fin cfg0.N) (k : Fin 16) (j : Fin 1024) :
    (win0_11.blk t).view.emb (ix3 k (0 : Fin 1) j) = ix3 (batchOf t k) (0 : Fin 1) j := by
  blk_ext [index11, batchOf]

/-- What grid point `t` leaves of the third result. -/
theorem aet_point (t : Fin cfg0.N) (k : Fin 16) (j : Fin 1024) : (blocksAt m c t).on out0_11 (ix3 k (0 : Fin 1) j)
    = (Host.args m c).params.aet ((Host.args m c).input (batchOf t k)) j := by
  rw [out11_eq]
  exact (rowsStored_apply _ k j).trans ((holds m c t).aet k j)

/-- The third result's array. -/
theorem aet_array : (dats m 0 c).arrAt 11 cfg0.N
    = (fun i => (Host.args m c).params.aet ((Host.args m c).input (i 0)) (i 2) : FVec Ideal S128x1x1024 .f32) := by
  refine (dats m 0 c).arrAt_eq_of_covers 11 _ (by decide +kernel) fun t hf y => ?_
  blk_simp
  rw [after0_11]
  obtain ⟨k, j, rfl⟩ : ∃ k : Fin 16, ∃ j : Fin 1024, y = (ix3 k (0 : Fin 1) j : S16x1x1024.Idx) := by
    refine ⟨y 0, y 2, ?_⟩
    funext d
    fin_cases d
    · rfl
    · exact Subsingleton.elim (α := Fin 1) _ _
    · rfl
  rw [emb11 t k j]
  have h := aet_point m c t k j
  unfold Blocks.on blocksAt at h
  dsimp only at h
  simp only [ix3_0, ix3_2]
  exact h

/-- Where a row of grid point `t` lies in the fourth result's array. -/
theorem emb12 (t : Fin cfg0.N) (k : Fin 16) (j : Fin 1024) :
    (win0_12.blk t).view.emb (ix3 k (0 : Fin 1) j) = ix3 (batchOf t k) (0 : Fin 1) j := by
  blk_ext [index12, batchOf]

/-- What grid point `t` leaves of the fourth result. -/
theorem cwd_point (t : Fin cfg0.N) (k : Fin 16) (j : Fin 1024) : (blocksAt m c t).on out0_12 (ix3 k (0 : Fin 1) j)
    = (Host.args m c).params.cwd ((Host.args m c).input (batchOf t k)) j := by
  rw [out12_eq]
  exact (rowsStored_apply _ k j).trans ((holds m c t).cwd k j)

/-- The fourth result's array. -/
theorem cwd_array : (dats m 0 c).arrAt 12 cfg0.N
    = (fun i => (Host.args m c).params.cwd ((Host.args m c).input (i 0)) (i 2) : FVec Ideal S128x1x1024 .f32) := by
  refine (dats m 0 c).arrAt_eq_of_covers 12 _ (by decide +kernel) fun t hf y => ?_
  blk_simp
  rw [after0_12]
  obtain ⟨k, j, rfl⟩ : ∃ k : Fin 16, ∃ j : Fin 1024, y = (ix3 k (0 : Fin 1) j : S16x1x1024.Idx) := by
    refine ⟨y 0, y 2, ?_⟩
    funext d
    fin_cases d
    · rfl
    · exact Subsingleton.elim (α := Fin 1) _ _
    · rfl
  rw [emb12 t k j]
  have h := cwd_point m c t k j
  unfold Blocks.on blocksAt at h
  dsimp only at h
  simp only [ix3_0, ix3_2]
  exact h

end Cert.Tcn

end

end
-- ==== Proof.KernelRun.lean ====
module

public import proofs.«01_k».proof.Proof.KernelArrays

@[expose] public section

/-! The kernel's run, its results named. -/

noncomputable section

namespace Cert.Tcn

open Idealize.ShloMosaic Idealize.SL.Sem
open Cert.KernelIdeal Cert.KernelIdeal.Gen

/-- The kernel ends, its results the network's, its arguments unchanged. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v51_0)
          = (fun i => (Host.args m c).params.pet ((Host.args m c).input (i 0)) (i 2) : FVec Ideal ⟨3, ![128, 1, 1024]⟩ .f32)
      ∧ r.2.mem ((c.tc : Thread nD τ).loc main_v51_1)
          = (fun i => (Host.args m c).params.pck ((Host.args m c).input (i 0)) (i 2) : FVec Ideal ⟨3, ![128, 1, 1024]⟩ .f32)
      ∧ r.2.mem ((c.tc : Thread nD τ).loc main_v51_2)
          = (fun i => (Host.args m c).params.aet ((Host.args m c).input (i 0)) (i 2) : FVec Ideal ⟨3, ![128, 1, 1024]⟩ .f32)
      ∧ r.2.mem ((c.tc : Thread nD τ).loc main_v51_3)
          = (fun i => (Host.args m c).params.cwd ((Host.args m c).input (i 0)) (i 2) : FVec Ideal ⟨3, ![128, 1, 1024]⟩ .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  θ_run_mono (Cert.KernelIdeal.Value.run_blocks m ρ) fun r h c => by
    obtain ⟨h0, h1, h2, h3, h4⟩ := h c
    exact ⟨h0.trans (pet_array m c), h1.trans (pck_array m c), h2.trans (aet_array m c), h3.trans (cwd_array m c), h4⟩

end Cert.Tcn

end

end
-- ==== Proof.RefOps.lean ====
module

public import proofs.«01_k».proof.Proof.Model
public import proofs.«01_k».proof.Proof.Gen.ReferenceIdeal.Read
public import Idealize.ShloMosaic.Lib.KernelVsHost
public import Idealize.ShloMosaic.Lib.Pointwise

@[expose] public section

/-! The operations that the reference is made of, each a definition: a causal convolution cut at zero, a contraction
    of the channels, the softplus. Over the extended reals each is read off entry by entry. -/

noncomputable section

namespace Cert.Tcn.Ref

open Idealize.ShloMosaic

variable {F : FTy → Type} [FloatOps F]

/-- Shapes of two and of three axes. -/
abbrev M2 (a b : Nat) : Shape := ⟨2, ![a, b]⟩
@[inherit_doc M2] abbrev M3 (a b c : Nat) : Shape := ⟨3, ![a, b, c]⟩

/-- The contraction of the channels: the time steps, then the output channels are left. -/
abbrev DotFact (C O : Nat) : Prop := DotDims.WF (M3 128 C 1024) (M2 O C) (M3 128 1024 O) [1] [1] [0, 2] [0] [] []
@[inherit_doc DotFact] def dot (C O : Nat) (wf : DotFact C O) : DotDims (M3 128 C 1024) (M2 O C) (M3 128 1024 O) where
  lhsContracting := [1]
  rhsContracting := [1]
  lhsNonContracting := [0, 2]
  rhsNonContracting := [0]
  lhsBatch := []
  rhsBatch := []
  wf := wf

/-- Zeros over the empty shape repeated. -/
def zeros (s : Shape) (h : (⟨0, ![]⟩ : Shape).BroadcastsInDim s (![] : Fin 0 → Fin s.rank)) : FVec F s .f32 :=
  broadcastInDim s ![] h (constant (F := F) ⟨0, ![]⟩ .f32 0x00000000#32)

/-- The rows with zeros before them. -/
def padOp {C : Nat} (n W : Nat) (x : FVec F (M3 128 C 1024) .f32)
    (h : (M3 128 C 1024).Pads ![0, 0, n] ![0, 0, 0] ![0, 0, 0] (M3 128 C W)) : FVec F (M3 128 C W) .f32 :=
  pad (M3 128 C W) ![0, 0, n] ![0, 0, 0] ![0, 0, 0] x (sitofp (F := F) .f32 (constantI ⟨0, ![]⟩ 32 0#32)) h (by decide)

/-- One tap of a convolution. -/
def tapOp {C W : Nat} (wf : DotFact C 64) (j s : Nat) (hw : (M3 64 C 3).Slices ![0, 0, j] (M3 64 C 1))
    (hc : (M3 64 C 1).ShapeCasts (M2 64 C)) (hs : (M3 128 C W).Slices ![0, 0, s] (M3 128 C 1024))
    (p : FVec F (M3 128 C W) .f32) (w : FVec F (M3 64 C 3) .f32) : FVec F (M3 128 64 1024) .f32 :=
  transpose (M3 128 64 1024) [0, 2, 1] (Host.dotGeneral (φ₁ := .f32) (φ₂ := .f32) (dot C 64 wf) none
    (extractStridedSlice (M3 128 C 1024) ![0, 0, s] p hs)
    (shapeCast (M2 64 C) (extractStridedSlice (M3 64 C 1) ![0, 0, j] w hw) hc)) (by decide)

/-- A bias for each output channel. -/
def biasOp {O : Nat} (h1 : (⟨1, ![O]⟩ : Shape).BroadcastsInDim (M3 1 O 1) ![1])
    (h2 : (M3 1 O 1).BroadcastsInDim (M3 128 O 1024) ![0, 1, 2]) (b : FVec F ⟨1, ![O]⟩ .f32) : FVec F (M3 128 O 1024) .f32 :=
  broadcastInDim (M3 128 O 1024) ![0, 1, 2] h2 (broadcastInDim (M3 1 O 1) ![1] h1 b)

/-- What a convolution of `C` channels and dilation `d` needs of its shapes. -/
structure ConvFacts (C d W : Nat) : Prop where
  wf : DotFact C 64
  pads : (M3 128 C 1024).Pads ![0, 0, 2 * d] ![0, 0, 0] ![0, 0, 0] (M3 128 C W)
  hw0 : (M3 64 C 3).Slices ![0, 0, 0] (M3 64 C 1)
  hw1 : (M3 64 C 3).Slices ![0, 0, 1] (M3 64 C 1)
  hw2 : (M3 64 C 3).Slices ![0, 0, 2] (M3 64 C 1)
  hc : (M3 64 C 1).ShapeCasts (M2 64 C)
  hs0 : (M3 128 C W).Slices ![0, 0, 0] (M3 128 C 1024)
  hs1 : (M3 128 C W).Slices ![0, 0, d] (M3 128 C 1024)
  hs2 : (M3 128 C W).Slices ![0, 0, 2 * d] (M3 128 C 1024)

/-- A causal convolution cut at zero. -/
def convOp {C d W : Nat} (f : ConvFacts C d W) (w : FVec F (M3 64 C 3) .f32) (b : FVec F ⟨1, ![64]⟩ .f32)
    (x : FVec F (M3 128 C 1024) .f32) : FVec F (M3 128 64 1024) .f32 :=
  maximumf (addf (addf (addf (addf (zeros _ (by decide)) (tapOp f.wf 0 0 f.hw0 f.hc f.hs0 (padOp (2 * d) W x f.pads) w))
    (tapOp f.wf 1 d f.hw1 f.hc f.hs1 (padOp (2 * d) W x f.pads) w))
    (tapOp f.wf 2 (2 * d) f.hw2 f.hc f.hs2 (padOp (2 * d) W x f.pads) w))
    (biasOp (by decide) (by decide) b)) (zeros _ (by decide))

/-- A contraction of the channels, a bias added. -/
def linOp {C O : Nat} (wf : DotFact C O) (hp : (M3 128 C 1024).Pads ![0, 0, 0] ![0, 0, 0] ![0, 0, 0] (M3 128 C 1024))
    (hc : (M3 O C 1).ShapeCasts (M2 O C)) (ht : (M3 128 1024 O).Transposes [0, 2, 1] (M3 128 O 1024)) (hz : (⟨0, ![]⟩ : Shape).BroadcastsInDim (M3 128 O 1024) ![])
    (h1 : (⟨1, ![O]⟩ : Shape).BroadcastsInDim (M3 1 O 1) ![1]) (h2 : (M3 1 O 1).BroadcastsInDim (M3 128 O 1024) ![0, 1, 2]) (w : FVec F (M3 O C 1) .f32) (b : FVec F ⟨1, ![O]⟩ .f32)
    (x : FVec F (M3 128 C 1024) .f32) : FVec F (M3 128 O 1024) .f32 :=
  addf (addf (zeros _ hz) (transpose (M3 128 O 1024) [0, 2, 1] (Host.dotGeneral (φ₁ := .f32) (φ₂ := .f32) (dot C O wf) none
    (padOp 0 1024 x hp) (shapeCast (M2 O C) w hc)) ht)) (biasOp h1 h2 b)

/-- The softplus. -/
def softplusOp (d : FVec F (M3 128 1 1024) .f32) : FVec F (M3 128 1 1024) .f32 :=
  select (cmpf .une (subf d (zeros _ (by decide))) (subf d (zeros _ (by decide)))) (addf d (zeros _ (by decide)))
    (addf (maximumf d (zeros _ (by decide)))
      (Host.log1p (Host.exp (Host.negf (Host.absf (subf d (zeros _ (by decide))))))))

/-- The rows of batch `b`. -/
def rowOf {C : Nat} (x : FVec Ideal (M3 128 C 1024) .f32) (b : Fin 128) : Row C := fun c t => x (ix3 b c t)

theorem zero_word : (Scalar.ofBits .f32 0x00000000#32 : Ideal .f32) = (0 : EReal) := Ideal.ofBits_zero_f32

theorem zeros_apply (s : Shape) (h) (i : s.Idx) : zeros (F := Ideal) s h i = (0 : EReal) := zero_word

/-- The coordinates that the contraction does not sum over. -/
theorem lhs_0 {C O : Nat} (wf : DotFact C O) (i : (M3 128 1024 O).Idx) (q : (dot C O wf).contr.Idx) :
    ((dot C O wf).lhsIdx i q 0).val = (i 0).val := by
  unfold DotDims.lhsIdx
  rw [dif_neg (show ¬(0 : Fin (M3 128 C 1024).rank) ∈ (dot C O wf).lhsBatch by show ¬(0 : Fin 3) ∈ ([] : List (Fin 3)); decide),
    dif_pos (show (0 : Fin (M3 128 C 1024).rank) ∈ (dot C O wf).lhsNonContracting by show (0 : Fin 3) ∈ ([0, 2] : List (Fin 3)); decide)]
  rfl

@[inherit_doc lhs_0] theorem lhs_2 {C O : Nat} (wf : DotFact C O) (i : (M3 128 1024 O).Idx) (q : (dot C O wf).contr.Idx) :
    ((dot C O wf).lhsIdx i q 2).val = (i 1).val := by
  unfold DotDims.lhsIdx
  rw [dif_neg (show ¬(2 : Fin (M3 128 C 1024).rank) ∈ (dot C O wf).lhsBatch by show ¬(2 : Fin 3) ∈ ([] : List (Fin 3)); decide),
    dif_pos (show (2 : Fin (M3 128 C 1024).rank) ∈ (dot C O wf).lhsNonContracting by show (2 : Fin 3) ∈ ([0, 2] : List (Fin 3)); decide)]
  rfl

@[inherit_doc lhs_0] theorem rhs_0 {C O : Nat} (wf : DotFact C O) (i : (M3 128 1024 O).Idx) (q : (dot C O wf).contr.Idx) :
    ((dot C O wf).rhsIdx i q 0).val = (i 2).val := by
  unfold DotDims.rhsIdx
  rw [dif_neg (show ¬(0 : Fin (M2 O C).rank) ∈ (dot C O wf).rhsBatch by show ¬(0 : Fin 2) ∈ ([] : List (Fin 2)); decide),
    dif_pos (show (0 : Fin (M2 O C).rank) ∈ (dot C O wf).rhsNonContracting by show (0 : Fin 2) ∈ ([0] : List (Fin 2)); decide)]
  rfl

/-- The contraction at an entry. -/
theorem dot_apply {C O : Nat} (wf : DotFact C O) (x : FVec Ideal (M3 128 C 1024) .f32) (w : FVec Ideal (M2 O C) .f32)
    (b : Fin 128) (t : Fin 1024) (o : Fin O) :
    Host.dotGeneral (φ₁ := .f32) (φ₂ := .f32) (dot C O wf) none x w (ix3 b t o) = ∑ c, x (ix3 b c t) * w (ix2 o c) := by
  simp only [Host.dotGeneral]
  rw [Ideal.dotGeneral_apply, ← Equiv.sum_comp (ValueIdx.contrEquiv1 (dot C O wf) C rfl rfl).symm]
  refine Finset.sum_congr rfl fun k _ => ?_
  have hk := ValueIdx.contrEquiv1_symm_val (dot C O wf) C rfl rfl k
  refine congrArg₂ (· * ·) (congrArg x (funext fun a => Fin.ext ?_)) (congrArg w (funext fun a => Fin.ext ?_))
  · match a with
    | ⟨0, _⟩ => exact lhs_0 wf _ _
    | ⟨1, _⟩ => exact ((dot C O wf).lhsIdx_val_of_single rfl _ _).trans hk
    | ⟨2, _⟩ => exact lhs_2 wf _ _
  · match a with
    | ⟨0, _⟩ => exact rhs_0 wf _ _
    | ⟨1, _⟩ => exact ((dot C O wf).rhsIdx_val_of_single rfl _ _).trans hk

/-- The padded rows at an entry. -/
theorem padOp_apply {C : Nat} (n W : Nat) (x : FVec Ideal (M3 128 C 1024) .f32) (h) (b : Fin 128) (c : Fin C) (t : Fin 1024)
    (q : Fin W) (e : Nat) (hq : q.val + e = t.val + n) : padOp n W x h (ix3 b c q) = delay e (rowOf x b) c t := by
  unfold padOp delay
  by_cases ht : e ≤ t.val
  · rw [if_pos ht]
    exact pad_apply_of_inside _ _ _ x _ h _ _ (ix3 b c ⟨t.val - e, by omega⟩)
      (by intro a; fin_cases a <;> simp; omega)
  · rw [if_neg ht]
    refine (pad_apply_of_not_inside _ _ _ x _ h _ _ 2 (by simp; omega)).trans ?_
    show ((((0#32).toInt : ℝ)) : EReal) = 0
    simp

/-- One tap at an entry. -/
theorem tapOp_apply {C W : Nat} (wf : DotFact C 64) (j : Fin 3) (s n : Nat) (hw) (hc) (hs) (x : FVec Ideal (M3 128 C 1024) .f32) (hp)
    (w : FVec Ideal (M3 64 C 3) .f32) (e : Nat) (he : s + e = n) (hW : s + 1024 ≤ W) (b : Fin 128) (o : Fin 64) (t : Fin 1024) :
    tapOp wf j.val s hw hc hs (padOp n W x hp) w (ix3 b o t) = ∑ c, w (ix3 o c j) * delay e (rowOf x b) c t := by
  unfold tapOp
  refine (transpose_apply _ _ _ _ (ix3 b t o) (by intro a; fin_cases a <;> rfl)).trans ?_
  refine (dot_apply wf _ _ b t o).trans ?_
  refine Finset.sum_congr rfl fun c _ => (mul_comm _ _).trans (congrArg₂ (· * ·) ?_ ?_)
  · refine (shapeCast_apply _ _ _ (ix3 o c (0 : Fin 1)) ?_).trans ?_
    · rw [Shape.rowMajor_val_two, Shape.rowMajor_val_three]
      simp
    · exact extractStridedSlice_apply _ _ _ _ (ix3 o c j) (by intro a; fin_cases a <;> simp)
  · refine (extractStridedSlice_apply _ _ _ _ (ix3 b c (⟨s + t.val, by omega⟩ : Fin W)) (by intro a; fin_cases a <;> simp)).trans ?_
    exact padOp_apply n W x hp b c t _ e (by show s + t.val + e = t.val + n; omega)

/-- The bias at an entry. -/
theorem biasOp_apply {O : Nat} (h1) (h2) (v : FVec Ideal ⟨1, ![O]⟩ .f32) (b : Fin 128) (o : Fin O) (t : Fin 1024) :
    biasOp h1 h2 v (ix3 b o t) = v (ix1 o) := by
  unfold biasOp
  refine (broadcastInDim_apply _ _ _ _ (ix3 (0 : Fin 1) o (0 : Fin 1)) ?_).trans ?_
  · intro a
    fin_cases a
    · rfl
    · have := o.isLt
      show o.val = if O = 1 then 0 else o.val
      by_cases hO : O = 1
      · rw [if_pos hO]; omega
      · rw [if_neg hO]
    · rfl
  · refine broadcastInDim_apply _ _ _ _ (ix1 o) ?_
    intro a
    fin_cases a
    have := o.isLt
    simp; intro h; omega

/-- A convolution cut at zero, batch by batch. -/
theorem convOp_row {C d W : Nat} (f : ConvFacts C d W) (hW : W = 1024 + 2 * d) (w : FVec Ideal (M3 64 C 3) .f32) (v : FVec Ideal ⟨1, ![64]⟩ .f32)
    (x : FVec Ideal (M3 128 C 1024) .f32) (b : Fin 128) :
    rowOf (convOp f w v x) b = relu (conv (fun o c j => w (ix3 o c j)) (fun o => v (ix1 o)) d (rowOf x b)) := by
  funext o t
  have z : ∀ h, zeros (F := Ideal) (M3 128 64 1024) h (ix3 b o t) = (0 : EReal) := fun h => zeros_apply _ h _
  have h0 := tapOp_apply f.wf 0 0 (2 * d) f.hw0 f.hc f.hs0 x f.pads w (2 * d) (by omega) (by omega) b o t
  have h1 := tapOp_apply f.wf 1 d (2 * d) f.hw1 f.hc f.hs1 x f.pads w d (by omega) (by omega) b o t
  have h2 := tapOp_apply f.wf 2 (2 * d) (2 * d) f.hw2 f.hc f.hs2 x f.pads w 0 (by omega) (by omega) b o t
  have h3 := biasOp_apply (by decide) (by decide) v b o t
  refine congrArg₂ (fun p q : EReal => max p q) ?_ (z _)
  refine congrArg₂ (fun p q : EReal => p + q) (congrArg₂ (fun p q : EReal => p + q) (congrArg₂ (fun p q : EReal => p + q)
    ?_ h1) (h2.trans ?_)) h3
  · refine (congrArg₂ (fun p q : EReal => p + q) (z _) h0).trans ?_
    exact zero_add _
  · exact Finset.sum_congr rfl fun c _ => congrArg (_ * ·) (by simp [delay])

/-- A contraction at an entry. -/
theorem linOp_apply {C O : Nat} (wf : DotFact C O) (hp) (hc) (ht) (hz) (h1) (h2) (w : FVec Ideal (M3 O C 1) .f32)
    (v : FVec Ideal ⟨1, ![O]⟩ .f32) (x : FVec Ideal (M3 128 C 1024) .f32) (b : Fin 128) (o : Fin O) (t : Fin 1024) :
    linOp wf hp hc ht hz h1 h2 w v x (ix3 b o t) = (∑ c, w (ix3 o c (0 : Fin 1)) * x (ix3 b c t)) + v (ix1 o) := by
  refine congrArg₂ (fun p q : EReal => p + q) ?_ (biasOp_apply h1 h2 v b o t)
  refine (congrArg₂ (fun p q : EReal => p + q) (zeros_apply _ hz _) ?_).trans (zero_add _)
  refine (transpose_apply _ _ _ _ (ix3 b t o) (by intro a; fin_cases a <;> rfl)).trans ?_
  refine (dot_apply wf _ _ b t o).trans ?_
  refine Finset.sum_congr rfl fun c _ => (mul_comm _ _).trans (congrArg₂ (· * ·) ?_ ?_)
  · refine shapeCast_apply _ _ _ (ix3 o c (0 : Fin 1)) ?_
    rw [Shape.rowMajor_val_two, Shape.rowMajor_val_three]
    simp
  · refine (padOp_apply 0 1024 x hp b c t t 0 rfl).trans ?_
    simp [delay, rowOf]

/-- The softplus at an entry. -/
theorem softplusOp_apply (d : FVec Ideal (M3 128 1 1024) .f32) (i : (M3 128 1 1024).Idx) : softplusOp d i = softplus (d i) := by
  have z := zero_word
  have hc : ∀ x : EReal, Ideal.cmp .une x x = 0#1 := by
    intro x
    simp [Ideal.cmp]
  show (if (Ideal.cmp .une (d i - (Scalar.ofBits .f32 0x00000000#32 : Ideal .f32)) (d i - (Scalar.ofBits .f32 0x00000000#32 : Ideal .f32))) = 1#1
    then (d i + (Scalar.ofBits .f32 0x00000000#32 : Ideal .f32) : EReal)
    else (max (d i) (Scalar.ofBits .f32 0x00000000#32 : Ideal .f32) : EReal)
      + Ideal.log1p (Ideal.exp (-
        (max (d i - (Scalar.ofBits .f32 0x00000000#32 : Ideal .f32)) (-(d i - (Scalar.ofBits .f32 0x00000000#32 : Ideal .f32))))))) = _
  rw [z]
  simp only [sub_zero]
  erw [hc]
  rfl

end Cert.Tcn.Ref

end

end
-- ==== Proof.RefStages.lean ====
module

public import proofs.«01_k».proof.Proof.RefOps

@[expose] public section

/-! The reference's stages, each named by the operations it is made of. -/

noncomputable section

namespace Cert.Tcn.Ref

open Idealize.ShloMosaic
open Cert.ReferenceIdeal Cert.ReferenceIdeal.Gen Cert.ReferenceIdeal.Read

variable {F : FTy → Type} [FloatOps F]

/-- The shapes of the first convolution. -/
theorem facts0 : ConvFacts 23 1 1026 := by constructor <;> decide
/-- The shapes of the second convolution. -/
theorem facts1 : ConvFacts 64 1 1026 := by constructor <;> decide
/-- The shapes of the convolutions of dilation 2. -/
theorem facts2 : ConvFacts 64 2 1028 := by constructor <;> decide
/-- The shapes of the convolutions of dilation 4. -/
theorem facts4 : ConvFacts 64 4 1032 := by constructor <;> decide
/-- The shapes of the convolutions of dilation 8. -/
theorem facts8 : ConvFacts 64 8 1040 := by constructor <;> decide
/-- The shapes of the convolutions of dilation 16. -/
theorem facts16 : ConvFacts 64 16 1056 := by constructor <;> decide

/-- One block's weights out of the stack of four. -/
def weightOp (i : Nat) (h : (⟨4, ![4, 64, 64, 3]⟩ : Shape).Slices ![i, 0, 0, 0] ⟨4, ![1, 64, 64, 3]⟩)
    (w : FVec F ⟨4, ![4, 64, 64, 3]⟩ .f32) : FVec F (M3 64 64 3) .f32 :=
  shapeCast (M3 64 64 3) (extractStridedSlice ⟨4, ![1, 64, 64, 3]⟩ ![i, 0, 0, 0] w h) (by decide)

/-- One block's bias out of the stack of four. -/
def biasRow (i : Nat) (h : (M2 4 64).Slices ![i, 0] (M2 1 64)) (w : FVec F (M2 4 64) .f32) : FVec F ⟨1, ![64]⟩ .f32 :=
  shapeCast ⟨1, ![64]⟩ (extractStridedSlice (M2 1 64) ![i, 0] w h) (by decide)

/-- A later residual block. -/
def laterOp {d W : Nat} (f : ConvFacts 64 d W) (i : Nat) (h4 : (⟨4, ![4, 64, 64, 3]⟩ : Shape).Slices ![i, 0, 0, 0] ⟨4, ![1, 64, 64, 3]⟩)
    (h2 : (M2 4 64).Slices ![i, 0] (M2 1 64)) (w1 : FVec F ⟨4, ![4, 64, 64, 3]⟩ .f32) (b1 : FVec F (M2 4 64) .f32)
    (w2 : FVec F ⟨4, ![4, 64, 64, 3]⟩ .f32) (b2 : FVec F (M2 4 64) .f32) (x : FVec F (M3 128 64 1024) .f32) : FVec F (M3 128 64 1024) .f32 :=
  addf x (convOp f (weightOp i h4 w2) (biasRow i h2 b2) (convOp f (weightOp i h4 w1) (biasRow i h2 b1) x))

/-- The first convolution. -/
theorem v33_eq (x0 : (⟨S128x15x1024, .f32⟩ : BufTy).Contents (Elt F)) (x1 : (⟨S128, .i32⟩ : BufTy).Contents (Elt F)) (x2 : (⟨S32x8, .f32⟩ : BufTy).Contents (Elt F)) (x3 : (⟨S64x23x3, .f32⟩ : BufTy).Contents (Elt F)) (x4 : (⟨S64, .f32⟩ : BufTy).Contents (Elt F)) :
    val_main_v33 (F := F) x0 x1 x2 x3 x4
      = convOp facts0 x3 x4 (val_main_v9 (F := F) x0 x1 x2) := rfl

/-- The second convolution. -/
theorem v57_eq (x0 : (⟨S128x15x1024, .f32⟩ : BufTy).Contents (Elt F)) (x1 : (⟨S128, .i32⟩ : BufTy).Contents (Elt F)) (x2 : (⟨S32x8, .f32⟩ : BufTy).Contents (Elt F)) (x3 : (⟨S64x23x3, .f32⟩ : BufTy).Contents (Elt F)) (x4 : (⟨S64, .f32⟩ : BufTy).Contents (Elt F)) (x5 : (⟨S64x64x3, .f32⟩ : BufTy).Contents (Elt F)) (x6 : (⟨S64, .f32⟩ : BufTy).Contents (Elt F)) :
    val_main_v57 (F := F) x0 x1 x2 x3 x4 x5 x6
      = convOp facts1 x5 x6 (val_main_v33 (F := F) x0 x1 x2 x3 x4) := rfl

/-- The input carried over. -/
theorem v66_eq (x0 : (⟨S128x15x1024, .f32⟩ : BufTy).Contents (Elt F)) (x1 : (⟨S128, .i32⟩ : BufTy).Contents (Elt F)) (x2 : (⟨S32x8, .f32⟩ : BufTy).Contents (Elt F)) (x7 : (⟨S64x23x1, .f32⟩ : BufTy).Contents (Elt F)) (x8 : (⟨S64, .f32⟩ : BufTy).Contents (Elt F)) :
    val_main_v66 (F := F) x0 x1 x2 x7 x8
      = linOp (by decide) (by decide) (by decide) (by decide) (by decide) (by decide) (by decide) x7 x8 (val_main_v9 (F := F) x0 x1 x2) := rfl

/-- The residual block of dilation 2. -/
theorem v124_eq (x0 : (⟨S128x15x1024, .f32⟩ : BufTy).Contents (Elt F)) (x1 : (⟨S128, .i32⟩ : BufTy).Contents (Elt F)) (x2 : (⟨S32x8, .f32⟩ : BufTy).Contents (Elt F)) (x3 : (⟨S64x23x3, .f32⟩ : BufTy).Contents (Elt F)) (x4 : (⟨S64, .f32⟩ : BufTy).Contents (Elt F)) (x5 : (⟨S64x64x3, .f32⟩ : BufTy).Contents (Elt F)) (x6 : (⟨S64, .f32⟩ : BufTy).Contents (Elt F)) (x7 : (⟨S64x23x1, .f32⟩ : BufTy).Contents (Elt F)) (x8 : (⟨S64, .f32⟩ : BufTy).Contents (Elt F)) (x9 : (⟨S4x64x64x3, .f32⟩ : BufTy).Contents (Elt F)) (x10 : (⟨S4x64, .f32⟩ : BufTy).Contents (Elt F)) (x11 : (⟨S4x64x64x3, .f32⟩ : BufTy).Contents (Elt F)) (x12 : (⟨S4x64, .f32⟩ : BufTy).Contents (Elt F)) :
    val_main_v124 (F := F) x0 x1 x2 x3 x4 x5 x6 x7 x8 x9 x10 x11 x12
      = laterOp facts2 0 (by decide) (by decide) x9 x10 x11 x12 (val_main_v67 (F := F) x0 x1 x2 x3 x4 x5 x6 x7 x8) := rfl

/-- The residual block of dilation 4. -/
theorem v181_eq (x0 : (⟨S128x15x1024, .f32⟩ : BufTy).Contents (Elt F)) (x1 : (⟨S128, .i32⟩ : BufTy).Contents (Elt F)) (x2 : (⟨S32x8, .f32⟩ : BufTy).Contents (Elt F)) (x3 : (⟨S64x23x3, .f32⟩ : BufTy).Contents (Elt F)) (x4 : (⟨S64, .f32⟩ : BufTy).Contents (Elt F)) (x5 : (⟨S64x64x3, .f32⟩ : BufTy).Contents (Elt F)) (x6 : (⟨S64, .f32⟩ : BufTy).Contents (Elt F)) (x7 : (⟨S64x23x1, .f32⟩ : BufTy).Contents (Elt F)) (x8 : (⟨S64, .f32⟩ : BufTy).Contents (Elt F)) (x9 : (⟨S4x64x64x3, .f32⟩ : BufTy).Contents (Elt F)) (x10 : (⟨S4x64, .f32⟩ : BufTy).Contents (Elt F)) (x11 : (⟨S4x64x64x3, .f32⟩ : BufTy).Contents (Elt F)) (x12 : (⟨S4x64, .f32⟩ : BufTy).Contents (Elt F)) :
    val_main_v181 (F := F) x0 x1 x2 x3 x4 x5 x6 x7 x8 x9 x10 x11 x12
      = laterOp facts4 1 (by decide) (by decide) x9 x10 x11 x12 (val_main_v124 (F := F) x0 x1 x2 x3 x4 x5 x6 x7 x8 x9 x10 x11 x12) := rfl

/-- The residual block of dilation 8. -/
theorem v238_eq (x0 : (⟨S128x15x1024, .f32⟩ : BufTy).Contents (Elt F)) (x1 : (⟨S128, .i32⟩ : BufTy).Contents (Elt F)) (x2 : (⟨S32x8, .f32⟩ : BufTy).Contents (Elt F)) (x3 : (⟨S64x23x3, .f32⟩ : BufTy).Contents (Elt F)) (x4 : (⟨S64, .f32⟩ : BufTy).Contents (Elt F)) (x5 : (⟨S64x64x3, .f32⟩ : BufTy).Contents (Elt F)) (x6 : (⟨S64, .f32⟩ : BufTy).Contents (Elt F)) (x7 : (⟨S64x23x1, .f32⟩ : BufTy).Contents (Elt F)) (x8 : (⟨S64, .f32⟩ : BufTy).Contents (Elt F)) (x9 : (⟨S4x64x64x3, .f32⟩ : BufTy).Contents (Elt F)) (x10 : (⟨S4x64, .f32⟩ : BufTy).Contents (Elt F)) (x11 : (⟨S4x64x64x3, .f32⟩ : BufTy).Contents (Elt F)) (x12 : (⟨S4x64, .f32⟩ : BufTy).Contents (Elt F)) :
    val_main_v238 (F := F) x0 x1 x2 x3 x4 x5 x6 x7 x8 x9 x10 x11 x12
      = laterOp facts8 2 (by decide) (by decide) x9 x10 x11 x12 (val_main_v181 (F := F) x0 x1 x2 x3 x4 x5 x6 x7 x8 x9 x10 x11 x12) := rfl

/-- The residual block of dilation 16. -/
theorem v295_eq (x0 : (⟨S128x15x1024, .f32⟩ : BufTy).Contents (Elt F)) (x1 : (⟨S128, .i32⟩ : BufTy).Contents (Elt F)) (x2 : (⟨S32x8, .f32⟩ : BufTy).Contents (Elt F)) (x3 : (⟨S64x23x3, .f32⟩ : BufTy).Contents (Elt F)) (x4 : (⟨S64, .f32⟩ : BufTy).Contents (Elt F)) (x5 : (⟨S64x64x3, .f32⟩ : BufTy).Contents (Elt F)) (x6 : (⟨S64, .f32⟩ : BufTy).Contents (Elt F)) (x7 : (⟨S64x23x1, .f32⟩ : BufTy).Contents (Elt F)) (x8 : (⟨S64, .f32⟩ : BufTy).Contents (Elt F)) (x9 : (⟨S4x64x64x3, .f32⟩ : BufTy).Contents (Elt F)) (x10 : (⟨S4x64, .f32⟩ : BufTy).Contents (Elt F)) (x11 : (⟨S4x64x64x3, .f32⟩ : BufTy).Contents (Elt F)) (x12 : (⟨S4x64, .f32⟩ : BufTy).Contents (Elt F)) :
    val_main_v295 (F := F) x0 x1 x2 x3 x4 x5 x6 x7 x8 x9 x10 x11 x12
      = laterOp facts16 3 (by decide) (by decide) x9 x10 x11 x12 (val_main_v238 (F := F) x0 x1 x2 x3 x4 x5 x6 x7 x8 x9 x10 x11 x12) := rfl

/-- The first head. -/
theorem v304_eq (x0 : (⟨S128x15x1024, .f32⟩ : BufTy).Contents (Elt F)) (x1 : (⟨S128, .i32⟩ : BufTy).Contents (Elt F)) (x2 : (⟨S32x8, .f32⟩ : BufTy).Contents (Elt F)) (x3 : (⟨S64x23x3, .f32⟩ : BufTy).Contents (Elt F)) (x4 : (⟨S64, .f32⟩ : BufTy).Contents (Elt F)) (x5 : (⟨S64x64x3, .f32⟩ : BufTy).Contents (Elt F)) (x6 : (⟨S64, .f32⟩ : BufTy).Contents (Elt F)) (x7 : (⟨S64x23x1, .f32⟩ : BufTy).Contents (Elt F)) (x8 : (⟨S64, .f32⟩ : BufTy).Contents (Elt F)) (x9 : (⟨S4x64x64x3, .f32⟩ : BufTy).Contents (Elt F)) (x10 : (⟨S4x64, .f32⟩ : BufTy).Contents (Elt F)) (x11 : (⟨S4x64x64x3, .f32⟩ : BufTy).Contents (Elt F)) (x12 : (⟨S4x64, .f32⟩ : BufTy).Contents (Elt F)) (x13 : (⟨S1x64x1, .f32⟩ : BufTy).Contents (Elt F)) (x14 : (⟨S1, .f32⟩ : BufTy).Contents (Elt F)) :
    val_main_v304 (F := F) x0 x1 x2 x3 x4 x5 x6 x7 x8 x9 x10 x11 x12 x13 x14
      = linOp (by decide) (by decide) (by decide) (by decide) (by decide) (by decide) (by decide) x13 x14 (val_main_v295 (F := F) x0 x1 x2 x3 x4 x5 x6 x7 x8 x9 x10 x11 x12) := rfl

/-- The first result. -/
theorem v305_eq (x0 : (⟨S128x15x1024, .f32⟩ : BufTy).Contents (Elt F)) (x1 : (⟨S128, .i32⟩ : BufTy).Contents (Elt F)) (x2 : (⟨S32x8, .f32⟩ : BufTy).Contents (Elt F)) (x3 : (⟨S64x23x3, .f32⟩ : BufTy).Contents (Elt F)) (x4 : (⟨S64, .f32⟩ : BufTy).Contents (Elt F)) (x5 : (⟨S64x64x3, .f32⟩ : BufTy).Contents (Elt F)) (x6 : (⟨S64, .f32⟩ : BufTy).Contents (Elt F)) (x7 : (⟨S64x23x1, .f32⟩ : BufTy).Contents (Elt F)) (x8 : (⟨S64, .f32⟩ : BufTy).Contents (Elt F)) (x9 : (⟨S4x64x64x3, .f32⟩ : BufTy).Contents (Elt F)) (x10 : (⟨S4x64, .f32⟩ : BufTy).Contents (Elt F)) (x11 : (⟨S4x64x64x3, .f32⟩ : BufTy).Contents (Elt F)) (x12 : (⟨S4x64, .f32⟩ : BufTy).Contents (Elt F)) (x13 : (⟨S1x64x1, .f32⟩ : BufTy).Contents (Elt F)) (x14 : (⟨S1, .f32⟩ : BufTy).Contents (Elt F)) :
    val_main_v305 (F := F) x0 x1 x2 x3 x4 x5 x6 x7 x8 x9 x10 x11 x12 x13 x14
      = softplusOp (val_main_v304 (F := F) x0 x1 x2 x3 x4 x5 x6 x7 x8 x9 x10 x11 x12 x13 x14) := rfl

/-- The second head. -/
theorem v314_eq (x0 : (⟨S128x15x1024, .f32⟩ : BufTy).Contents (Elt F)) (x1 : (⟨S128, .i32⟩ : BufTy).Contents (Elt F)) (x2 : (⟨S32x8, .f32⟩ : BufTy).Contents (Elt F)) (x3 : (⟨S64x23x3, .f32⟩ : BufTy).Contents (Elt F)) (x4 : (⟨S64, .f32⟩ : BufTy).Contents (Elt F)) (x5 : (⟨S64x64x3, .f32⟩ : BufTy).Contents (Elt F)) (x6 : (⟨S64, .f32⟩ : BufTy).Contents (Elt F)) (x7 : (⟨S64x23x1, .f32⟩ : BufTy).Contents (Elt F)) (x8 : (⟨S64, .f32⟩ : BufTy).Contents (Elt F)) (x9 : (⟨S4x64x64x3, .f32⟩ : BufTy).Contents (Elt F)) (x10 : (⟨S4x64, .f32⟩ : BufTy).Contents (Elt F)) (x11 : (⟨S4x64x64x3, .f32⟩ : BufTy).Contents (Elt F)) (x12 : (⟨S4x64, .f32⟩ : BufTy).Contents (Elt F)) (x15 : (⟨S1x64x1, .f32⟩ : BufTy).Contents (Elt F)) (x16 : (⟨S1, .f32⟩ : BufTy).Contents (Elt F)) :
    val_main_v314 (F := F) x0 x1 x2 x3 x4 x5 x6 x7 x8 x9 x10 x11 x12 x15 x16
      = linOp (by decide) (by decide) (by decide) (by decide) (by decide) (by decide) (by decide) x15 x16 (val_main_v295 (F := F) x0 x1 x2 x3 x4 x5 x6 x7 x8 x9 x10 x11 x12) := rfl

/-- The second result. -/
theorem v315_eq (x0 : (⟨S128x15x1024, .f32⟩ : BufTy).Contents (Elt F)) (x1 : (⟨S128, .i32⟩ : BufTy).Contents (Elt F)) (x2 : (⟨S32x8, .f32⟩ : BufTy).Contents (Elt F)) (x3 : (⟨S64x23x3, .f32⟩ : BufTy).Contents (Elt F)) (x4 : (⟨S64, .f32⟩ : BufTy).Contents (Elt F)) (x5 : (⟨S64x64x3, .f32⟩ : BufTy).Contents (Elt F)) (x6 : (⟨S64, .f32⟩ : BufTy).Contents (Elt F)) (x7 : (⟨S64x23x1, .f32⟩ : BufTy).Contents (Elt F)) (x8 : (⟨S64, .f32⟩ : BufTy).Contents (Elt F)) (x9 : (⟨S4x64x64x3, .f32⟩ : BufTy).Contents (Elt F)) (x10 : (⟨S4x64, .f32⟩ : BufTy).Contents (Elt F)) (x11 : (⟨S4x64x64x3, .f32⟩ : BufTy).Contents (Elt F)) (x12 : (⟨S4x64, .f32⟩ : BufTy).Contents (Elt F)) (x15 : (⟨S1x64x1, .f32⟩ : BufTy).Contents (Elt F)) (x16 : (⟨S1, .f32⟩ : BufTy).Contents (Elt F)) :
    val_main_v315 (F := F) x0 x1 x2 x3 x4 x5 x6 x7 x8 x9 x10 x11 x12 x15 x16
      = softplusOp (val_main_v314 (F := F) x0 x1 x2 x3 x4 x5 x6 x7 x8 x9 x10 x11 x12 x15 x16) := rfl

/-- The third head. -/
theorem v325_eq (x0 : (⟨S128x15x1024, .f32⟩ : BufTy).Contents (Elt F)) (x1 : (⟨S128, .i32⟩ : BufTy).Contents (Elt F)) (x2 : (⟨S32x8, .f32⟩ : BufTy).Contents (Elt F)) (x3 : (⟨S64x23x3, .f32⟩ : BufTy).Contents (Elt F)) (x4 : (⟨S64, .f32⟩ : BufTy).Contents (Elt F)) (x5 : (⟨S64x64x3, .f32⟩ : BufTy).Contents (Elt F)) (x6 : (⟨S64, .f32⟩ : BufTy).Contents (Elt F)) (x7 : (⟨S64x23x1, .f32⟩ : BufTy).Contents (Elt F)) (x8 : (⟨S64, .f32⟩ : BufTy).Contents (Elt F)) (x9 : (⟨S4x64x64x3, .f32⟩ : BufTy).Contents (Elt F)) (x10 : (⟨S4x64, .f32⟩ : BufTy).Contents (Elt F)) (x11 : (⟨S4x64x64x3, .f32⟩ : BufTy).Contents (Elt F)) (x12 : (⟨S4x64, .f32⟩ : BufTy).Contents (Elt F)) (x13 : (⟨S1x64x1, .f32⟩ : BufTy).Contents (Elt F)) (x14 : (⟨S1, .f32⟩ : BufTy).Contents (Elt F)) (x15 : (⟨S1x64x1, .f32⟩ : BufTy).Contents (Elt F)) (x16 : (⟨S1, .f32⟩ : BufTy).Contents (Elt F)) (x17 : (⟨S1x66x1, .f32⟩ : BufTy).Contents (Elt F)) (x18 : (⟨S1, .f32⟩ : BufTy).Contents (Elt F)) :
    val_main_v325 (F := F) x0 x1 x2 x3 x4 x5 x6 x7 x8 x9 x10 x11 x12 x13 x14 x15 x16 x17 x18
      = linOp (by decide) (by decide) (by decide) (by decide) (by decide) (by decide) (by decide) x17 x18 (val_main_v316 (F := F) x0 x1 x2 x3 x4 x5 x6 x7 x8 x9 x10 x11 x12 x13 x14 x15 x16) := rfl

end Cert.Tcn.Ref

end

end
-- ==== Proof.RefValue.lean ====
module

public import proofs.«01_k».proof.Proof.RefStages
public import proofs.«01_k».proof.Proof.Arrays
public import Idealize.ShloMosaic.Lib.Pipeline

@[expose] public section

/-! The reference's results over the extended reals, entry by entry. -/

noncomputable section

namespace Cert.Tcn.Ref

open Idealize.ShloMosaic
open Cert.ReferenceIdeal Cert.ReferenceIdeal.Gen Cert.ReferenceIdeal.Read

/-- One block's weights at an entry. -/
theorem weightOp_apply (i : Fin 4) (h) (w : FVec Ideal ⟨4, ![4, 64, 64, 3]⟩ .f32) (o c : Fin 64) (j : Fin 3) :
    weightOp i.val h w (ix3 o c j) = w (ix4 i o c j) := by
  unfold weightOp
  refine (shapeCast_apply _ _ _ (ix4 (0 : Fin 1) o c j) ?_).trans ?_
  · rw [Shape.rowMajor_val_three, Shape.rowMajor_val_four]
    simp
  · exact extractStridedSlice_apply _ _ _ _ (ix4 i o c j) (by intro a; fin_cases a <;> simp)

/-- One block's bias at an entry. -/
theorem biasRow_apply (i : Fin 4) (h) (w : FVec Ideal (M2 4 64) .f32) (o : Fin 64) :
    biasRow i.val h w (ix1 o) = w (ix2 i o) := by
  unfold biasRow
  refine (shapeCast_apply _ _ _ (ix2 (0 : Fin 1) o) ?_).trans ?_
  · rw [Shape.rowMajor_val_one, Shape.rowMajor_val_two]
    simp
  · exact extractStridedSlice_apply _ _ _ _ (ix2 i o) (by intro a; fin_cases a <;> simp)

/-- A later residual block, batch by batch. -/
theorem laterOp_row {d W : Nat} (f : ConvFacts 64 d W) (hW : W = 1024 + 2 * d) (i : Fin 4) (h4) (h2)
    (w1 : FVec Ideal ⟨4, ![4, 64, 64, 3]⟩ .f32) (b1 : FVec Ideal (M2 4 64) .f32)
    (w2 : FVec Ideal ⟨4, ![4, 64, 64, 3]⟩ .f32) (b2 : FVec Ideal (M2 4 64) .f32) (x : FVec Ideal (M3 128 64 1024) .f32) (b : Fin 128) :
    rowOf (laterOp f i.val h4 h2 w1 b1 w2 b2 x) b
      = block d (fun o c j => w1 (ix4 i o c j)) (fun o => b1 (ix2 i o)) (fun o c j => w2 (ix4 i o c j)) (fun o => b2 (ix2 i o)) (rowOf x b) := by
  have e : rowOf (convOp f (weightOp i.val h4 w2) (biasRow i.val h2 b2) (convOp f (weightOp i.val h4 w1) (biasRow i.val h2 b1) x)) b
      = convs d (fun o c j => w1 (ix4 i o c j)) (fun o => b1 (ix2 i o)) (fun o c j => w2 (ix4 i o c j)) (fun o => b2 (ix2 i o)) (rowOf x b) := by
    rw [convOp_row f hW, convOp_row f hW]
    simp only [weightOp_apply, biasRow_apply]
    rfl
  funext o t
  exact congrArg (x (ix3 b o t) + ·) (congrFun (congrFun e o) t)

/-- The first input's rows and the looked up rows side by side. -/
theorem input_row (x : FVec Ideal ⟨3, ![128, 15, 1024]⟩ .f32) (e : FVec Ideal (M2 128 8) .f32) (h1) (h2) (hc) (b : Fin 128)
    (c : Fin 23) (t : Fin 1024) :
    concatenate (M3 128 23 1024) 1 [⟨M3 128 15 1024, x⟩, ⟨M3 128 8 1024,
        broadcastInDim (M3 128 8 1024) ![0, 1, 2] h2 (broadcastInDim (M3 128 8 1) ![0, 1] h1 e)⟩] hc (ix3 b c t)
      = if h : c.val < 15 then x (ix3 b ⟨c.val, h⟩ t) else e (ix2 b ⟨c.val - 15, by omega⟩) := by
  have off : ∀ l : Nat, ∀ q : Fin l, ∀ a : Fin 3, a ≠ 1 →
      ((ix3 b q t : (M3 128 l 1024).Idx) a).val = ((ix3 b c t : (M3 128 23 1024).Idx) a).val := by
    intro l q a ha
    fin_cases a
    · rfl
    · exact absurd rfl ha
    · rfl
  split
  · next h =>
    exact concatenate_apply_piece (t := M3 128 23 1024) 1 [⟨M3 128 15 1024, x⟩, ⟨M3 128 8 1024,
        broadcastInDim (M3 128 8 1024) ![0, 1, 2] h2 (broadcastInDim (M3 128 8 1) ![0, 1] h1 e)⟩] hc _ 0
      (by show 0 < 2; omega) (M3 128 15 1024) x rfl rfl 0 rfl (ix3 b (⟨c.val, h⟩ : Fin 15) t)
      (off 15 _) (Nat.zero_add _)
  · next h =>
    refine (concatenate_apply_piece (t := M3 128 23 1024) 1 [⟨M3 128 15 1024, x⟩, ⟨M3 128 8 1024,
        broadcastInDim (M3 128 8 1024) ![0, 1, 2] h2 (broadcastInDim (M3 128 8 1) ![0, 1] h1 e)⟩] hc _ 1
      (by show 1 < 2; omega) (M3 128 8 1024) _ rfl rfl 15 rfl (ix3 b (⟨c.val - 15, by omega⟩ : Fin 8) t)
      (off 8 _) (by show 15 + (c.val - 15) = c.val; omega)).trans ?_
    refine (broadcastInDim_apply _ _ _ _ (ix3 b (⟨c.val - 15, by omega⟩ : Fin 8) (0 : Fin 1)) (by intro a; fin_cases a <;> rfl)).trans ?_
    exact broadcastInDim_apply _ _ _ _ (ix2 b (⟨c.val - 15, by omega⟩ : Fin 8)) (by intro a; fin_cases a <;> rfl)

/-- The features and the first two results one above the other. -/
theorem stack_row (x : FVec Ideal (M3 128 64 1024) .f32) (y z : FVec Ideal (M3 128 1 1024) .f32) (hc) (b : Fin 128) (t : Fin 1024) :
    (∀ c : Fin 64, concatenate (M3 128 66 1024) 1 [⟨M3 128 64 1024, x⟩, ⟨M3 128 1 1024, y⟩, ⟨M3 128 1 1024, z⟩] hc
      (ix3 b (Fin.castAdd 2 c) t) = x (ix3 b c t))
    ∧ concatenate (M3 128 66 1024) 1 [⟨M3 128 64 1024, x⟩, ⟨M3 128 1 1024, y⟩, ⟨M3 128 1 1024, z⟩] hc
      (ix3 b (64 : Fin 66) t) = y (ix3 b (0 : Fin 1) t)
    ∧ concatenate (M3 128 66 1024) 1 [⟨M3 128 64 1024, x⟩, ⟨M3 128 1 1024, y⟩, ⟨M3 128 1 1024, z⟩] hc
      (ix3 b (65 : Fin 66) t) = z (ix3 b (0 : Fin 1) t) := by
  refine ⟨fun c => ?_, ?_, ?_⟩
  · exact concatenate_apply_piece (t := M3 128 66 1024) 1 [⟨M3 128 64 1024, x⟩, ⟨M3 128 1 1024, y⟩, ⟨M3 128 1 1024, z⟩] hc _ 0
      (by show 0 < 3; omega) (M3 128 64 1024) x rfl rfl 0 rfl (ix3 b c t) (by intro a; fin_cases a <;> simp) (by simp)
  · exact concatenate_apply_piece (t := M3 128 66 1024) 1 [⟨M3 128 64 1024, x⟩, ⟨M3 128 1 1024, y⟩, ⟨M3 128 1 1024, z⟩] hc _ 1
      (by show 1 < 3; omega) (M3 128 1 1024) y rfl rfl 64 rfl (ix3 b (0 : Fin 1) t) (by intro a; fin_cases a <;> simp) (by simp)
  · exact concatenate_apply_piece (t := M3 128 66 1024) 1 [⟨M3 128 64 1024, x⟩, ⟨M3 128 1 1024, y⟩, ⟨M3 128 1 1024, z⟩] hc _ 2
      (by show 2 < 3; omega) (M3 128 1 1024) z rfl rfl 65 rfl (ix3 b (0 : Fin 1) t) (by intro a; fin_cases a <;> simp) (by simp)

/-- A sum over 66 channels: 64 of them, then the last two. -/
theorem sum_66 (f : Fin 66 → EReal) : (∑ c, f c) = (∑ c : Fin 64, f (Fin.castAdd 2 c)) + f 64 + f 65 := by
  refine (Fin.sum_univ_add (a := 64) (b := 2) f).trans ?_
  rw [Fin.sum_univ_two, ← add_assoc]
  rfl

variable (x0 : FVec Ideal (⟨3, ![128, 15, 1024]⟩ : Shape) .f32)
  (x1 : IVec ⟨1, ![128]⟩ 32)
  (x2 : FVec Ideal (M2 32 8) .f32)
  (x3 : FVec Ideal (M3 64 23 3) .f32)
  (x4 : FVec Ideal (⟨1, ![64]⟩ : Shape) .f32)
  (x5 : FVec Ideal (M3 64 64 3) .f32)
  (x6 : FVec Ideal (⟨1, ![64]⟩ : Shape) .f32)
  (x7 : FVec Ideal (M3 64 23 1) .f32)
  (x8 : FVec Ideal (⟨1, ![64]⟩ : Shape) .f32)
  (x9 : FVec Ideal (⟨4, ![4, 64, 64, 3]⟩ : Shape) .f32)
  (x10 : FVec Ideal (M2 4 64) .f32)
  (x11 : FVec Ideal (⟨4, ![4, 64, 64, 3]⟩ : Shape) .f32)
  (x12 : FVec Ideal (M2 4 64) .f32)
  (x13 : FVec Ideal (M3 1 64 1) .f32)
  (x14 : FVec Ideal (⟨1, ![1]⟩ : Shape) .f32)
  (x15 : FVec Ideal (M3 1 64 1) .f32)
  (x16 : FVec Ideal (⟨1, ![1]⟩ : Shape) .f32)
  (x17 : FVec Ideal (M3 1 66 1) .f32)
  (x18 : FVec Ideal (⟨1, ![1]⟩ : Shape) .f32)

/-- The reference's arguments, the embedding looked up. -/
def argsOf : Args where
  x := x0
  emb := val_main_v6 (F := Ideal) x1 x2
  w0a := x3
  b0a := x4
  w0b := x5
  b0b := x6
  w0r := x7
  b0r := x8
  wa := x9
  ba := x10
  wb := x11
  bb := x12
  petW := x13
  petB := x14
  pckW := x15
  pckB := x16
  aetW := x17
  aetB := x18

/-- The reference's input rows. -/
theorem v9_row (b : Fin 128) :
    rowOf (val_main_v9 (F := Ideal) x0 x1 x2) b = (argsOf x0 x1 x2 x3 x4 x5 x6 x7 x8 x9 x10 x11 x12 x13 x14 x15 x16 x17 x18).input b := by
  funext c t
  exact input_row x0 (val_main_v6 (F := Ideal) x1 x2) bcast_S128x8_S128x8x1_0_1 bcast_S128x8x1_S128x8x1024_0_1_2
    concatenates_S128x15x1024_S128x8x1024_S128x23x1024_d1 b c t

/-- What the first residual block leaves. -/
theorem v67_row (b : Fin 128) :
    rowOf (val_main_v67 (F := Ideal) x0 x1 x2 x3 x4 x5 x6 x7 x8) b = (argsOf x0 x1 x2 x3 x4 x5 x6 x7 x8 x9 x10 x11 x12 x13 x14 x15 x16 x17 x18).params.f0 ((argsOf x0 x1 x2 x3 x4 x5 x6 x7 x8 x9 x10 x11 x12 x13 x14 x15 x16 x17 x18).input b) := by
  have e : rowOf (val_main_v57 (F := Ideal) x0 x1 x2 x3 x4 x5 x6) b = convs 1 (argsOf x0 x1 x2 x3 x4 x5 x6 x7 x8 x9 x10 x11 x12 x13 x14 x15 x16 x17 x18).params.w0a (argsOf x0 x1 x2 x3 x4 x5 x6 x7 x8 x9 x10 x11 x12 x13 x14 x15 x16 x17 x18).params.b0a (argsOf x0 x1 x2 x3 x4 x5 x6 x7 x8 x9 x10 x11 x12 x13 x14 x15 x16 x17 x18).params.w0b (argsOf x0 x1 x2 x3 x4 x5 x6 x7 x8 x9 x10 x11 x12 x13 x14 x15 x16 x17 x18).params.b0b ((argsOf x0 x1 x2 x3 x4 x5 x6 x7 x8 x9 x10 x11 x12 x13 x14 x15 x16 x17 x18).input b) := by
    rw [v57_eq, convOp_row facts1 rfl, v33_eq, convOp_row facts0 rfl, v9_row x0 x1 x2 x3 x4 x5 x6 x7 x8 x9 x10 x11 x12 x13 x14 x15 x16 x17 x18 b]
    rfl
  funext o t
  refine congrArg₂ (fun p q : EReal => p + q) (congrFun (congrFun e o) t) ?_
  refine (congrFun (v66_eq (F := Ideal) x0 x1 x2 x7 x8) _).trans ((linOp_apply _ _ _ _ _ _ _ x7 x8 _ b o t).trans ?_)
  refine congrArg (fun p : EReal => p + x8 (ix1 o)) (Finset.sum_congr rfl fun c _ => congrArg (fun p : EReal => x7 (ix3 o c (0 : Fin 1)) * p) ?_)
  exact congrFun (congrFun (v9_row x0 x1 x2 x3 x4 x5 x6 x7 x8 x9 x10 x11 x12 x13 x14 x15 x16 x17 x18 b) c) t

/-- What the residual block of dilation 2 leaves. -/
theorem v124_row (b : Fin 128) :
    rowOf (val_main_v124 (F := Ideal) x0 x1 x2 x3 x4 x5 x6 x7 x8 x9 x10 x11 x12) b = (argsOf x0 x1 x2 x3 x4 x5 x6 x7 x8 x9 x10 x11 x12 x13 x14 x15 x16 x17 x18).params.later 0 2 ((argsOf x0 x1 x2 x3 x4 x5 x6 x7 x8 x9 x10 x11 x12 x13 x14 x15 x16 x17 x18).params.f0 ((argsOf x0 x1 x2 x3 x4 x5 x6 x7 x8 x9 x10 x11 x12 x13 x14 x15 x16 x17 x18).input b)) := by
  rw [v124_eq]
  refine (laterOp_row facts2 rfl 0 _ _ x9 x10 x11 x12 _ b).trans ?_
  rw [v67_row x0 x1 x2 x3 x4 x5 x6 x7 x8 x9 x10 x11 x12 x13 x14 x15 x16 x17 x18 b]
  rfl

/-- What the residual block of dilation 4 leaves. -/
theorem v181_row (b : Fin 128) :
    rowOf (val_main_v181 (F := Ideal) x0 x1 x2 x3 x4 x5 x6 x7 x8 x9 x10 x11 x12) b = (argsOf x0 x1 x2 x3 x4 x5 x6 x7 x8 x9 x10 x11 x12 x13 x14 x15 x16 x17 x18).params.later 1 4 ((argsOf x0 x1 x2 x3 x4 x5 x6 x7 x8 x9 x10 x11 x12 x13 x14 x15 x16 x17 x18).params.later 0 2 ((argsOf x0 x1 x2 x3 x4 x5 x6 x7 x8 x9 x10 x11 x12 x13 x14 x15 x16 x17 x18).params.f0 ((argsOf x0 x1 x2 x3 x4 x5 x6 x7 x8 x9 x10 x11 x12 x13 x14 x15 x16 x17 x18).input b))) := by
  rw [v181_eq]
  refine (laterOp_row facts4 rfl 1 _ _ x9 x10 x11 x12 _ b).trans ?_
  rw [v124_row x0 x1 x2 x3 x4 x5 x6 x7 x8 x9 x10 x11 x12 x13 x14 x15 x16 x17 x18 b]
  rfl

/-- What the residual block of dilation 8 leaves. -/
theorem v238_row (b : Fin 128) :
    rowOf (val_main_v238 (F := Ideal) x0 x1 x2 x3 x4 x5 x6 x7 x8 x9 x10 x11 x12) b = (argsOf x0 x1 x2 x3 x4 x5 x6 x7 x8 x9 x10 x11 x12 x13 x14 x15 x16 x17 x18).params.later 2 8 ((argsOf x0 x1 x2 x3 x4 x5 x6 x7 x8 x9 x10 x11 x12 x13 x14 x15 x16 x17 x18).params.later 1 4 ((argsOf x0 x1 x2 x3 x4 x5 x6 x7 x8 x9 x10 x11 x12 x13 x14 x15 x16 x17 x18).params.later 0 2 ((argsOf x0 x1 x2 x3 x4 x5 x6 x7 x8 x9 x10 x11 x12 x13 x14 x15 x16 x17 x18).params.f0 ((argsOf x0 x1 x2 x3 x4 x5 x6 x7 x8 x9 x10 x11 x12 x13 x14 x15 x16 x17 x18).input b)))) := by
  rw [v238_eq]
  refine (laterOp_row facts8 rfl 2 _ _ x9 x10 x11 x12 _ b).trans ?_
  rw [v181_row x0 x1 x2 x3 x4 x5 x6 x7 x8 x9 x10 x11 x12 x13 x14 x15 x16 x17 x18 b]
  rfl

/-- What the residual block of dilation 16 leaves. -/
theorem v295_row (b : Fin 128) :
    rowOf (val_main_v295 (F := Ideal) x0 x1 x2 x3 x4 x5 x6 x7 x8 x9 x10 x11 x12) b = (argsOf x0 x1 x2 x3 x4 x5 x6 x7 x8 x9 x10 x11 x12 x13 x14 x15 x16 x17 x18).params.later 3 16 ((argsOf x0 x1 x2 x3 x4 x5 x6 x7 x8 x9 x10 x11 x12 x13 x14 x15 x16 x17 x18).params.later 2 8 ((argsOf x0 x1 x2 x3 x4 x5 x6 x7 x8 x9 x10 x11 x12 x13 x14 x15 x16 x17 x18).params.later 1 4 ((argsOf x0 x1 x2 x3 x4 x5 x6 x7 x8 x9 x10 x11 x12 x13 x14 x15 x16 x17 x18).params.later 0 2 ((argsOf x0 x1 x2 x3 x4 x5 x6 x7 x8 x9 x10 x11 x12 x13 x14 x15 x16 x17 x18).params.f0 ((argsOf x0 x1 x2 x3 x4 x5 x6 x7 x8 x9 x10 x11 x12 x13 x14 x15 x16 x17 x18).input b))))) := by
  rw [v295_eq]
  refine (laterOp_row facts16 rfl 3 _ _ x9 x10 x11 x12 _ b).trans ?_
  rw [v238_row x0 x1 x2 x3 x4 x5 x6 x7 x8 x9 x10 x11 x12 x13 x14 x15 x16 x17 x18 b]
  rfl

/-- The features. -/
theorem feats_row (b : Fin 128) :
    rowOf (val_main_v295 (F := Ideal) x0 x1 x2 x3 x4 x5 x6 x7 x8 x9 x10 x11 x12) b = (argsOf x0 x1 x2 x3 x4 x5 x6 x7 x8 x9 x10 x11 x12 x13 x14 x15 x16 x17 x18).params.feats ((argsOf x0 x1 x2 x3 x4 x5 x6 x7 x8 x9 x10 x11 x12 x13 x14 x15 x16 x17 x18).input b) := by
  exact v295_row x0 x1 x2 x3 x4 x5 x6 x7 x8 x9 x10 x11 x12 x13 x14 x15 x16 x17 x18 b

/-- The first result at an entry. -/
theorem pet_at (b : Fin 128) (t : Fin 1024) :
    (val_main_v305 (F := Ideal) x0 x1 x2 x3 x4 x5 x6 x7 x8 x9 x10 x11 x12 x13 x14) (ix3 b (0 : Fin 1) t) = (argsOf x0 x1 x2 x3 x4 x5 x6 x7 x8 x9 x10 x11 x12 x13 x14 x15 x16 x17 x18).params.pet ((argsOf x0 x1 x2 x3 x4 x5 x6 x7 x8 x9 x10 x11 x12 x13 x14 x15 x16 x17 x18).input b) t := by
  rw [v305_eq, softplusOp_apply, v304_eq]
  refine congrArg softplus ((linOp_apply _ _ _ _ _ _ _ x13 x14 _ b 0 t).trans ?_)
  refine congrArg (fun p : EReal => p + x14 (ix1 (0 : Fin 1))) (Finset.sum_congr rfl fun c _ => congrArg (fun p : EReal => x13 (ix3 (0 : Fin 1) c (0 : Fin 1)) * p) ?_)
  exact congrFun (congrFun (feats_row x0 x1 x2 x3 x4 x5 x6 x7 x8 x9 x10 x11 x12 x13 x14 x15 x16 x17 x18 b) c) t

/-- The second result at an entry. -/
theorem pck_at (b : Fin 128) (t : Fin 1024) :
    (val_main_v315 (F := Ideal) x0 x1 x2 x3 x4 x5 x6 x7 x8 x9 x10 x11 x12 x15 x16) (ix3 b (0 : Fin 1) t) = (argsOf x0 x1 x2 x3 x4 x5 x6 x7 x8 x9 x10 x11 x12 x13 x14 x15 x16 x17 x18).params.pck ((argsOf x0 x1 x2 x3 x4 x5 x6 x7 x8 x9 x10 x11 x12 x13 x14 x15 x16 x17 x18).input b) t := by
  rw [v315_eq, softplusOp_apply, v314_eq]
  refine congrArg softplus ((linOp_apply _ _ _ _ _ _ _ x15 x16 _ b 0 t).trans ?_)
  refine congrArg (fun p : EReal => p + x16 (ix1 (0 : Fin 1))) (Finset.sum_congr rfl fun c _ => congrArg (fun p : EReal => x15 (ix3 (0 : Fin 1) c (0 : Fin 1)) * p) ?_)
  exact congrFun (congrFun (feats_row x0 x1 x2 x3 x4 x5 x6 x7 x8 x9 x10 x11 x12 x13 x14 x15 x16 x17 x18 b) c) t

/-- The third head at an entry. -/
theorem third_head (b : Fin 128) (t : Fin 1024) :
    (val_main_v325 (F := Ideal) x0 x1 x2 x3 x4 x5 x6 x7 x8 x9 x10 x11 x12 x13 x14 x15 x16 x17 x18) (ix3 b (0 : Fin 1) t)
      = head (fun c => (argsOf x0 x1 x2 x3 x4 x5 x6 x7 x8 x9 x10 x11 x12 x13 x14 x15 x16 x17 x18).params.aetW (Fin.castAdd 2 c)) (argsOf x0 x1 x2 x3 x4 x5 x6 x7 x8 x9 x10 x11 x12 x13 x14 x15 x16 x17 x18).params.aetB ((argsOf x0 x1 x2 x3 x4 x5 x6 x7 x8 x9 x10 x11 x12 x13 x14 x15 x16 x17 x18).params.feats ((argsOf x0 x1 x2 x3 x4 x5 x6 x7 x8 x9 x10 x11 x12 x13 x14 x15 x16 x17 x18).input b)) t
        + (argsOf x0 x1 x2 x3 x4 x5 x6 x7 x8 x9 x10 x11 x12 x13 x14 x15 x16 x17 x18).params.aetW 64 * (argsOf x0 x1 x2 x3 x4 x5 x6 x7 x8 x9 x10 x11 x12 x13 x14 x15 x16 x17 x18).params.pet ((argsOf x0 x1 x2 x3 x4 x5 x6 x7 x8 x9 x10 x11 x12 x13 x14 x15 x16 x17 x18).input b) t + (argsOf x0 x1 x2 x3 x4 x5 x6 x7 x8 x9 x10 x11 x12 x13 x14 x15 x16 x17 x18).params.aetW 65 * (argsOf x0 x1 x2 x3 x4 x5 x6 x7 x8 x9 x10 x11 x12 x13 x14 x15 x16 x17 x18).params.pck ((argsOf x0 x1 x2 x3 x4 x5 x6 x7 x8 x9 x10 x11 x12 x13 x14 x15 x16 x17 x18).input b) t := by
  rw [v325_eq]
  refine (linOp_apply _ _ _ _ _ _ _ x17 x18 _ b 0 t).trans ?_
  rw [sum_66]
  obtain ⟨p, q, r⟩ := stack_row (val_main_v295 (F := Ideal) x0 x1 x2 x3 x4 x5 x6 x7 x8 x9 x10 x11 x12) (val_main_v305 (F := Ideal) x0 x1 x2 x3 x4 x5 x6 x7 x8 x9 x10 x11 x12 x13 x14) (val_main_v315 (F := Ideal) x0 x1 x2 x3 x4 x5 x6 x7 x8 x9 x10 x11 x12 x15 x16)
    concatenates_S128x64x1024_S128x1x1024_S128x1x1024_S128x66x1024_d1 b t
  have p' : ∀ c : Fin 64, (val_main_v316 (F := Ideal) x0 x1 x2 x3 x4 x5 x6 x7 x8 x9 x10 x11 x12 x13 x14 x15 x16) (ix3 b (Fin.castAdd 2 c) t) = (argsOf x0 x1 x2 x3 x4 x5 x6 x7 x8 x9 x10 x11 x12 x13 x14 x15 x16 x17 x18).params.feats ((argsOf x0 x1 x2 x3 x4 x5 x6 x7 x8 x9 x10 x11 x12 x13 x14 x15 x16 x17 x18).input b) c t :=
    fun c => (p c).trans (congrFun (congrFun (feats_row x0 x1 x2 x3 x4 x5 x6 x7 x8 x9 x10 x11 x12 x13 x14 x15 x16 x17 x18 b) c) t)
  have q' : (val_main_v316 (F := Ideal) x0 x1 x2 x3 x4 x5 x6 x7 x8 x9 x10 x11 x12 x13 x14 x15 x16) (ix3 b (64 : Fin 66) t) = (argsOf x0 x1 x2 x3 x4 x5 x6 x7 x8 x9 x10 x11 x12 x13 x14 x15 x16 x17 x18).params.pet ((argsOf x0 x1 x2 x3 x4 x5 x6 x7 x8 x9 x10 x11 x12 x13 x14 x15 x16 x17 x18).input b) t := q.trans (pet_at x0 x1 x2 x3 x4 x5 x6 x7 x8 x9 x10 x11 x12 x13 x14 x15 x16 x17 x18 b t)
  have r' : (val_main_v316 (F := Ideal) x0 x1 x2 x3 x4 x5 x6 x7 x8 x9 x10 x11 x12 x13 x14 x15 x16) (ix3 b (65 : Fin 66) t) = (argsOf x0 x1 x2 x3 x4 x5 x6 x7 x8 x9 x10 x11 x12 x13 x14 x15 x16 x17 x18).params.pck ((argsOf x0 x1 x2 x3 x4 x5 x6 x7 x8 x9 x10 x11 x12 x13 x14 x15 x16 x17 x18).input b) t := r.trans (pck_at x0 x1 x2 x3 x4 x5 x6 x7 x8 x9 x10 x11 x12 x13 x14 x15 x16 x17 x18 b t)
  rw [q', r']
  simp only [p']
  refine (add_right_comm _ _ _).trans (congrArg (fun u : EReal => u + _) (add_right_comm _ _ _))

/-- The third result at an entry. -/
theorem aet_at (b : Fin 128) (t : Fin 1024) :
    (val_main_v332 (F := Ideal) x0 x1 x2 x3 x4 x5 x6 x7 x8 x9 x10 x11 x12 x13 x14 x15 x16 x17 x18) (ix3 b (0 : Fin 1) t) = (argsOf x0 x1 x2 x3 x4 x5 x6 x7 x8 x9 x10 x11 x12 x13 x14 x15 x16 x17 x18).params.aet ((argsOf x0 x1 x2 x3 x4 x5 x6 x7 x8 x9 x10 x11 x12 x13 x14 x15 x16 x17 x18).input b) t := by
  have one : (Scalar.ofBits .f32 0x3F800000#32 : Ideal .f32) = (1 : EReal) := by
    show Ideal.ofBits .f32 0x3F800000#32 = 1
    simp [Ideal.ofBits, Ideal.ieee, -EReal.coe_mul]; norm_num
  refine congrArg₂ (fun p q : EReal => p * q) ?_ (pet_at x0 x1 x2 x3 x4 x5 x6 x7 x8 x9 x10 x11 x12 x13 x14 x15 x16 x17 x18 b t)
  refine Eq.trans ?_ (congrArg Ideal.logistic (third_head x0 x1 x2 x3 x4 x5 x6 x7 x8 x9 x10 x11 x12 x13 x14 x15 x16 x17 x18 b t))
  show Ideal.div (Scalar.ofBits .f32 0x3F800000#32 : Ideal .f32) ((Scalar.ofBits .f32 0x3F800000#32 : Ideal .f32) + Ideal.exp (-(val_main_v325 (F := Ideal) x0 x1 x2 x3 x4 x5 x6 x7 x8 x9 x10 x11 x12 x13 x14 x15 x16 x17 x18) (ix3 b (0 : Fin 1) t))) = _
  rw [one]
  rfl

/-- The fourth result at an entry. -/
theorem cwd_at (b : Fin 128) (t : Fin 1024) :
    (val_main_v333 (F := Ideal) x0 x1 x2 x3 x4 x5 x6 x7 x8 x9 x10 x11 x12 x13 x14 x15 x16 x17 x18) (ix3 b (0 : Fin 1) t) = (argsOf x0 x1 x2 x3 x4 x5 x6 x7 x8 x9 x10 x11 x12 x13 x14 x15 x16 x17 x18).params.cwd ((argsOf x0 x1 x2 x3 x4 x5 x6 x7 x8 x9 x10 x11 x12 x13 x14 x15 x16 x17 x18).input b) t := by
  exact congrArg₂ (fun p q : EReal => p - q) (pet_at x0 x1 x2 x3 x4 x5 x6 x7 x8 x9 x10 x11 x12 x13 x14 x15 x16 x17 x18 b t) (aet_at x0 x1 x2 x3 x4 x5 x6 x7 x8 x9 x10 x11 x12 x13 x14 x15 x16 x17 x18 b t)

end Cert.Tcn.Ref

end

end
-- ==== Proof.RefRun.lean ====
module

public import proofs.«01_k».proof.Proof.RefValue
public import Idealize.ShloMosaic.Lib.Claim

@[expose] public section

/-! The reference's run, its results named. -/

noncomputable section

namespace Cert.Tcn

open Idealize.ShloMosaic Idealize.SL.Sem
open Cert.ReferenceIdeal Cert.ReferenceIdeal.Gen Cert.ReferenceIdeal.Read

/-- The arguments out of the memory that the reference starts from. -/
def Ref.args (m : (ℓ : Loc nD τ sig) → Buf (Elt Ideal) ℓ) (c : Dev nD) : Args :=
  Ref.argsOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))

/-- An array of one row per batch, from its entries. -/
theorem Ref.ext_row {x y : FVec Ideal ⟨3, ![128, 1, 1024]⟩ .f32}
    (h : ∀ (b : Fin 128) (t : Fin 1024), x (ix3 b (0 : Fin 1) t) = y (ix3 b (0 : Fin 1) t)) : x = y := by
  funext i
  have e : i = (ix3 (i 0) (0 : Fin 1) (i 2) : (⟨3, ![128, 1, 1024]⟩ : Shape).Idx) := by
    funext a
    fin_cases a
    · rfl
    · exact Subsingleton.elim (α := Fin 1) _ _
    · rfl
  rw [e]
  exact h _ _

/-- The reference ends, its results the network's, its arguments unchanged. -/
theorem reference_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v305)
          = (fun i => (Ref.args m c).params.pet ((Ref.args m c).input (i 0)) (i 2) : FVec Ideal ⟨3, ![128, 1, 1024]⟩ .f32)
      ∧ r.2.mem ((c.tc : Thread nD τ).loc main_v315)
          = (fun i => (Ref.args m c).params.pck ((Ref.args m c).input (i 0)) (i 2) : FVec Ideal ⟨3, ![128, 1, 1024]⟩ .f32)
      ∧ r.2.mem ((c.tc : Thread nD τ).loc main_v332)
          = (fun i => (Ref.args m c).params.aet ((Ref.args m c).input (i 0)) (i 2) : FVec Ideal ⟨3, ![128, 1, 1024]⟩ .f32)
      ∧ r.2.mem ((c.tc : Thread nD τ).loc main_v333)
          = (fun i => (Ref.args m c).params.cwd ((Ref.args m c).input (i 0)) (i 2) : FVec Ideal ⟨3, ![128, 1, 1024]⟩ .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  θ_run_mono (Cert.ReferenceIdeal.Value.run m ρ) fun r h c => by
    obtain ⟨h0, h1, h2, h3, h4⟩ := h c
    refine ⟨(h0.trans (val_main_v305_eq _)).trans (Ref.ext_row fun b t => ?_), (h1.trans (val_main_v315_eq _)).trans (Ref.ext_row fun b t => ?_),
      (h2.trans (val_main_v332_eq _)).trans (Ref.ext_row fun b t => ?_), (h3.trans (val_main_v333_eq _)).trans (Ref.ext_row fun b t => ?_), h4⟩
    · exact Ref.pet_at (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) b t
    · exact Ref.pck_at (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) b t
    · exact Ref.aet_at (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) b t
    · exact Ref.cwd_at (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) b t

end Cert.Tcn

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.KernelRun
public import proofs.«01_k».proof.Proof.RefRun
public import Idealize.ShloMosaic.Lib.Bf16Pair
public import Idealize.ShloMosaic.Lib.Quiescent
public import Idealize.ShloMosaic.Adequacy
public import Idealize.ShloMosaic.Init

@[expose] public section

noncomputable section

namespace Cert.Proof

open Idealize.ShloMosaic Idealize.SL.Sem

/-- The reference leaves its arguments alone, and it has no semaphore. -/
theorem frame_reference : Cert.quiescent_ReferenceIdeal := fun m g _ =>
  θ_run_mono (Cert.ReferenceIdeal.Value.run m g) fun r h =>
    ⟨fun c => (h c).2.2.2.2, sem_eq_zero_of_no_sems (by decide) _⟩

/-- The words that the kernel packs two entries to hold what the packed arrays' ideal readings say. -/
theorem preserves : Cert.preserves_Kernel_KernelIdeal :=
  ⟨IdealRules.bf16_pair.statement _ _ Cert.KernelIdeal.Gen.facts.bitcasts_S32x1_w16_S16x1_w32,
    IdealRules.bf16_pair.statement _ _ Cert.KernelIdeal.Gen.facts.bitcasts_S32x2_w16_S16x2_w32,
    IdealRules.bf16_pair.statement _ _ Cert.KernelIdeal.Gen.facts.bitcasts_S64x1_w16_S32x1_w32,
    IdealRules.bf16_pair.statement _ _ Cert.KernelIdeal.Gen.facts.bitcasts_S64x2_w16_S32x2_w32,
    IdealRules.bf16_pair.statement _ _ Cert.KernelIdeal.Gen.facts.bitcasts_S64x4_w16_S32x4_w32,
    IdealRules.bf16_pair.statement _ _ Cert.KernelIdeal.Gen.facts.bitcasts_S64x8_w16_S32x8_w32,
    IdealRules.bf16_pair.statement _ _ Cert.KernelIdeal.Gen.facts.bitcasts_S64x16_w16_S32x16_w32,
    IdealRules.bf16_pair.statement _ _ Cert.KernelIdeal.Gen.facts.bitcasts_S64x32_w16_S32x32_w32,
    IdealRules.bf16_pair.statement _ _ Cert.KernelIdeal.Gen.facts.bitcasts_S32x1024_w16_S16x1024_w32,
    IdealRules.bf16_pair.statement _ _ Cert.KernelIdeal.Gen.facts.bitcasts_S64x1024_w16_S32x1024_w32⟩

/-- Equal arguments are equal as the network reads them. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) :
    Cert.Tcn.Ref.args m' c = Cert.Tcn.Host.args m c := by
  obtain ⟨h0, h1, h2, h3, h4, h5, h6, h7, h8, h9, h10, h11, h12, h13, h14, h15, h16, h17, h18⟩ := h
  unfold Cert.Tcn.Ref.args
  rw [h0, h1, h2, h3, h4, h5, h6, h7, h8, h9, h10, h11, h12, h13, h14, h15, h16, h17, h18]
  rfl

/-- Over the extended reals the kernel's four results are the reference's. -/
theorem algebraic : Cert.algebraic_KernelIdeal_ReferenceIdeal := by
  intro m g m' g' _ hagree
  refine ⟨_, _, _, _, Cert.Tcn.kernel_run m g, θ_run_mono (Cert.Tcn.reference_run m' g') fun r h c => ?_⟩
  obtain ⟨h0, h1, h2, h3, h4⟩ := h c
  rw [args_eq m m' c (hagree c)] at h0 h1 h2 h3
  exact ⟨h0, h1, h2, h3, h4⟩

/-- Everything that is claimed. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, preserves, algebraic⟩

end Cert.Proof

end
